-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_blocks_in_range : Cert.Pre_blocks_in_range.Facts] (m : (ℓ : Loc Cert.Kernel2.nD Cert.Kernel2.τ Cert.Kernel2.sig) → Buf (Elt Bits) ℓ) : Prop :=
  ∀ c : Dev Cert.Kernel2.nD,
    (Cert.Pre_blocks_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_blocks_in_range : Cert.Pre_blocks_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_in_range [hPre_blocks_in_range : Cert.Pre_blocks_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_projection [hPre_finite_projection : Cert.Pre_finite_projection.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_projection [hPre_finite_projection : Cert.Pre_finite_projection.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_blocks_in_range : Cert.Pre_blocks_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_blocks_in_range [hReference2Ideal : Cert.Reference2Ideal.Facts] [hPre_blocks_in_range : Cert.Pre_blocks_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_projection [hKernel3Ideal : Cert.Kernel3Ideal.Facts] [hPre_finite_projection : Cert.Pre_finite_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_projection m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_projection [hReference3Ideal : Cert.Reference3Ideal.Facts] [hPre_finite_projection : Cert.Pre_finite_projection.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_projection m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_projection [hKernel3Ideal : Cert.Kernel3Ideal.Facts] [hReference3Ideal : Cert.Reference3Ideal.Facts] [hPre_finite_projection : Cert.Pre_finite_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_projection m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_blocks_in_range : Cert.Pre_blocks_in_range.Facts) (hPre_finite_projection : Cert.Pre_finite_projection.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_blocks_in_range := hPre_blocks_in_range)
    ∧ quiescent_Kernel2Ideal (hKernel2Ideal := hKernel2Ideal) (hPre_blocks_in_range := hPre_blocks_in_range)
    ∧ quiescent_Reference2Ideal (hReference2Ideal := hReference2Ideal)
    ∧ quiescent_Reference2Ideal_pre_blocks_in_range (hReference2Ideal := hReference2Ideal) (hPre_blocks_in_range := hPre_blocks_in_range)
    ∧ quiescent_Kernel3 (hKernel3 := hKernel3)
    ∧ quiescent_Kernel3Ideal (hKernel3Ideal := hKernel3Ideal)
    ∧ quiescent_Kernel3Ideal_pre_finite_projection (hKernel3Ideal := hKernel3Ideal) (hPre_finite_projection := hPre_finite_projection)
    ∧ quiescent_Reference3Ideal (hReference3Ideal := hReference3Ideal)
    ∧ quiescent_Reference3Ideal_pre_finite_projection (hReference3Ideal := hReference3Ideal) (hPre_finite_projection := hPre_finite_projection)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_blocks_in_range := hPre_blocks_in_range)
    ∧ preserves_Kernel3_Kernel3Ideal
    ∧ algebraic_Kernel3Ideal_Reference3Ideal_pre_finite_projection (hKernel3Ideal := hKernel3Ideal) (hReference3Ideal := hReference3Ideal) (hPre_finite_projection := hPre_finite_projection)
-- ==== Pre_blocks_in_range.lean ====
abbrev S544 : Shape := ⟨1, ![544]⟩
abbrev S1 : Shape := ⟨1, ![1]⟩
abbrev S4456448x128 : Shape := ⟨2, ![4456448, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : IVec S544 32) (main_arg1 : IVec S1 32) (main_arg2 : FVec F S4456448x128 .bf16) (main_arg3 : FVec F S32x2048x4096 .bf16) (main_arg4 : FVec F S32x4096 .f32) (main_arg5 : FVec F S32x2048x2048 .bf16) (main_arg6 : FVec F S32x2048 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_finite_projection.lean ====
abbrev S16x2048x2048 : Shape := ⟨3, ![16, 2048, 2048]⟩
abbrev S1x2048 : Shape := ⟨2, ![1, 2048]⟩
abbrev S1x2048x4608 : Shape := ⟨3, ![1, 2048, 4608]⟩
abbrev S1x64 : Shape := ⟨2, ![1, 64]⟩
abbrev S_ : Shape := ⟨0, ![]⟩
abbrev S1x2048x1280 : Shape := ⟨3, ![1, 2048, 1280]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  slices_S1x2048x4608_S1x2048x1280_0_0_0 : S1x2048x4608.Slices ![0, 0, 0] S1x2048x1280
  bcast_S_S1x2048x1280 : S_.BroadcastsInDim S1x2048x1280 (![] : Fin 0 → Fin S1x2048x1280.rank)
  reducesTo_S1x2048x1280_S_d0_1_2 : S1x2048x1280.ReducesTo [0, 1, 2] S_

variable [Facts]

def fn {F : FTy → Type} [FloatOps F] (main_arg0 : FVec F S16x2048x2048 .f32) (main_arg1 : FVec F S1x2048 .f32) (main_arg2 : FVec F S1x2048x4608 .f32) (main_arg3 : FVec F S1x64 .f32) (main_arg4 : FVec F S1x64 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x1280 .f32 := (extractStridedSlice S1x2048x1280 ![0, 0, 0] · slices_S1x2048x4608_S1x2048x1280_0_0_0) main_arg2
  let main_v5 : FVec F S1x2048x1280 .f32 := Host.absf main_v4
  let main_cst_0 : FVec F S_ .f32 := constant S_ .f32 0x7F800000#32
  let main_v6 : FVec F S1x2048x1280 .f32 := broadcastInDim S1x2048x1280 ![] bcast_S_S1x2048x1280 main_cst_0
  let main_v7 : IVec S1x2048x1280 1 := cmpf .olt main_v5 main_v6
  let main_c_1 : IVec S_ 1 := constantI S_ 1 1#1
  let main_v8 : IVec S_ 1 := (fun x v => Host.reduce IntOp.andi x v reducesTo_S1x2048x1280_S_d0_1_2 h_S_) main_v7 main_c_1
  let main_v9 : IVec S_ 1 := andi main_v3 main_v8
  main_v9
-- ==== Pre_finite_scores.lean ====
abbrev S16x2048x4608 : Shape := ⟨3, ![16, 2048, 4608]⟩
abbrev S1x16 : Shape := ⟨2, ![1, 16]⟩
abbrev S1x1024 : Shape := ⟨2, ![1, 1024]⟩
abbrev S16x2048x1280 : Shape := ⟨3, ![16, 2048, 1280]⟩
abbrev S_ : Shape := ⟨0, ![]⟩

class Facts : Prop where
  slices_S16x2048x4608_S16x2048x1280_0_0_0 : S16x2048x4608.Slices ![0, 0, 0] S16x2048x1280
  bitsLt_bf16_f32 : FTy.bits .bf16 < FTy.bits .f32
  bcast_S_S16x2048x1280 : S_.BroadcastsInDim S16x2048x1280 (![] : Fin 0 → Fin S16x2048x1280.rank)
  reducesTo_S16x2048x1280_S_d0_1_2 : S16x2048x1280.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S16x2048x4608 .bf16) (main_arg1 : FVec F S1x16 .f32) (main_arg2 : FVec F S1x1024 .f32) : IVec S_ 1 :=
  let main_v0 : FVec F S16x2048x1280 .bf16 := (extractStridedSlice S16x2048x1280 ![0, 0, 0] · slices_S16x2048x4608_S16x2048x1280_0_0_0) main_arg0
  let main_v1 : FVec F S16x2048x1280 .f32 := (extf .f32 · bitsLt_bf16_f32) main_v0
  let main_v2 : FVec F S16x2048x1280 .f32 := Host.absf main_v1
  let main_cst : FVec F S_ .f32 := constant S_ .f32 0x7F800000#32
  let main_v3 : FVec F S16x2048x1280 .f32 := broadcastInDim S16x2048x1280 ![] bcast_S_S16x2048x1280 main_cst
  let main_v4 : IVec S16x2048x1280 1 := cmpf .olt main_v2 main_v3
  let main_c : IVec S_ 1 := constantI S_ 1 1#1
  let main_v5 : IVec S_ 1 := (fun x v => Host.reduce IntOp.andi x v reducesTo_S16x2048x1280_S_d0_1_2 h_S_) main_v4 main_c
  let main_v6 : FVec F S1x16 .f32 := Host.absf main_arg1
  let main_cst_0 : FVec F S_ .f32 := constant S_ .f32 0x7F800000#32
  let main_v7 : FVec F S1x16 .f32 := broadcastInDim S1x16 ![] bcast_S_S1x16 main_cst_0
  let main_v8 : IVec S1x16 1 := cmpf .olt main_v6 main_v7
  let main_c_1 : IVec S_ 1 := constantI S_ 1 1#1
  let main_v9 : IVec S_ 1 := (fun x v => Host.reduce IntOp.andi x v reducesTo_S1x16_S_d0_1 h_S_) main_v8 main_c_1
  let main_v10 : IVec S_ 1 := andi main_v5 main_v9
  main_v10
-- ==== Kernel.lean ====
abbrev S16x2048x4608 : Shape := ⟨3, ![16, 2048, 4608]⟩
abbrev S1x16 : Shape := ⟨2, ![1, 16]⟩
abbrev S1x1024 : Shape := ⟨2, ![1, 1024]⟩
abbrev S16 : Shape := ⟨1, ![16]⟩
abbrev S1024 : Shape := ⟨1, ![1024]⟩
abbrev S3x16x128x384 : Shape := ⟨4, ![3, 16, 128, 384]⟩
abbrev S_ : Shape := ⟨0, ![]⟩
abbrev S3x2048x384 : Shape := ⟨3, ![3, 2048, 384]⟩
abbrev S16x2048x1024 : Shape := ⟨3, ![16, 2048, 1024]⟩
abbrev S1x128x1024 : Shape := ⟨3, ![1, 128, 1024]⟩
abbrev S1x2048x256 : Shape := ⟨3, ![1, 2048, 256]⟩
abbrev S1x2048x384 : Shape := ⟨3, ![1, 2048, 384]⟩
abbrev S128x1024 : Shape := ⟨2, ![128, 1024]⟩
abbrev S2048x384 : Shape := ⟨2, ![2048, 384]⟩
abbrev S1x384x64 : Shape := ⟨3, ![1, 384, 64]⟩
abbrev S384x64 : Shape := ⟨2, ![384, 64]⟩
abbrev S1x128x64 : Shape := ⟨3, ![1, 128, 64]⟩
abbrev S128x64 : Shape := ⟨2, ![128, 64]⟩
abbrev S128x384 : Shape := ⟨2, ![128, 384]⟩
abbrev S1x128x384 : Shape := ⟨3, ![1, 128, 384]⟩
abbrev S1 : Shape := ⟨1, ![1]⟩
abbrev S16x384 : Shape := ⟨2, ![16, 384]⟩
abbrev S16x1 : Shape := ⟨2, ![16, 1]⟩
abbrev S128 : Shape := ⟨1, ![128]⟩
abbrev S128x1 : Shape := ⟨2, ![128, 1]⟩

abbrev nBuf : Space → Nat
  | .hbm => 42
  | .vmem => 14
  | .smem => 1
  | _ => 0

abbrev bufTy : (tb : Table) → Fin (tcTables nBuf tb) → BufTy
  | .hbm, ⟨0, _⟩ => ⟨S16x2048x4608, .bf16⟩
  | .hbm, ⟨1, _⟩ => ⟨S1x16, .f32⟩
  | .hbm, ⟨2, _⟩ => ⟨S1x1024, .f32⟩
  | .hbm, ⟨3, _⟩ => ⟨S16, .f32⟩
  | .hbm, ⟨4, _⟩ => ⟨S1024, .f32⟩
  | .hbm, ⟨5, _⟩ => ⟨S3x16x128x384, .i32⟩
  | .hbm, ⟨6, _⟩ => ⟨S3x16x128x384, .f32⟩
  | .hbm, ⟨7, _⟩ => ⟨S_, .f32⟩
  | .hbm, ⟨8, _⟩ => ⟨S3x16x128x384, .f32⟩
  | .hbm, ⟨9, _⟩ => ⟨S3x16x128x384, .f32⟩
  | .hbm, ⟨10, _⟩ => ⟨S_, .f32⟩
  | .hbm, ⟨11, _⟩ => ⟨S3x16x128x384, .f32⟩
  | .hbm, ⟨12, _⟩ => ⟨S3x16x128x384, .f32⟩
  | .hbm, ⟨13, _⟩ => ⟨S_, .f32⟩
  | .hbm, ⟨14, _⟩ => ⟨S3x16x128x384, .f32⟩
  | .hbm, ⟨15, _⟩ => ⟨S3x16x128x384, .f32⟩
  | .hbm, ⟨16, _⟩ => ⟨S_, .f32⟩
  | .hbm, ⟨17, _⟩ => ⟨S3x16x128x384, .f32⟩
  | .hbm, ⟨18, _⟩ => ⟨S3x16x128x384, .f32⟩
  | .hbm, ⟨19, _⟩ => ⟨S3x16x128x384, .f32⟩
  | .hbm, ⟨20, _⟩ => ⟨S3x16x128x384, .i32⟩
  | .hbm, ⟨21, _⟩ => ⟨S3x16x128x384, .i32⟩
  | .hbm, ⟨22, _⟩ => ⟨S3x16x128x384, .i32⟩
  | .hbm, ⟨23, _⟩ => ⟨S3x16x128x384, .i32⟩
  | .hbm, ⟨24, _⟩ => ⟨S_, .i32⟩
  | .hbm, ⟨25, _⟩ => ⟨S3x16x128x384, .i32⟩
  | .hbm, ⟨26, _⟩ => ⟨S3x16x128x384, .i32⟩
  | .hbm, ⟨27, _⟩ => ⟨S3x16x128x384, .i32⟩
  | .hbm, ⟨28, _⟩ => ⟨S3x16x128x384, .i32⟩
  | .hbm, ⟨29, _⟩ => ⟨S_, .i32⟩
  | .hbm, ⟨30, _⟩ => ⟨S3x16x128x384, .i32⟩
  | .hbm, ⟨31, _⟩ => ⟨S3x16x128x384, .i1⟩
  | .hbm, ⟨32, _⟩ => ⟨S3x16x128x384, .f32⟩
  | .hbm, ⟨33, _⟩ => ⟨S3x16x128x384, .f32⟩
  | .hbm, ⟨34, _⟩ => ⟨S3x16x128x384, .f32⟩
  | .hbm, ⟨35, _⟩ => ⟨S_, .f32⟩
  | .hbm, ⟨36, _⟩ => ⟨S_, .f32⟩
  | .hbm, ⟨37, _⟩ => ⟨S3x16x128x384, .f32⟩
  | .hbm, ⟨38, _⟩ => ⟨S3x16x128x384, .f32⟩
  | .hbm, ⟨39, _⟩ => ⟨S3x2048x384, .f32⟩
  | .hbm, ⟨40, _⟩ => ⟨S1x1024, .f32⟩
  | .hbm, ⟨41, _⟩ => ⟨S16x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x384, .f32⟩
  | .local _ .vmem, ⟨7, _⟩ => ⟨S1x2048x384, .f32⟩
  | .local _ .vmem, ⟨8, _⟩ => ⟨S1x1024, .f32⟩
  | .local _ .vmem, ⟨9, _⟩ => ⟨S1x128x1024, .bf16⟩
  | .local _ .vmem, ⟨10, _⟩ => ⟨S1x128x1024, .bf16⟩
  | .local _ .vmem, ⟨11, _⟩ => ⟨S128x1024, .f32⟩
  | .local _ .vmem, ⟨12, _⟩ => ⟨S2048x384, .f32⟩
  | .local _ .vmem, ⟨13, _⟩ => ⟨S2048x384, .bf16⟩
  | .local _ .smem, ⟨0, _⟩ => ⟨S16, .f32⟩
  | _, _ => ⟨S16x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 3 → Nat :=
  let c0 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v5 : Index := Scalar.indexCast v4
  let c0_1 : Index := 0#32
  ![0, v5.toNat, 0]
def k0_off2 (i : grid0.Coords) : Fin 3 → Nat :=
  let c0_33 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v46 : Index := Scalar.indexCast v4
  let c64_34 : Index := 64#32
  ![0, v46.toNat, 64]
def k0_off3 (i : grid0.Coords) : Fin 3 → Nat :=
  let c0_66 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v87 : Index := Scalar.indexCast v4
  let c128_67 : Index := 128#32
  ![0, v87.toNat, 128]
def k0_off4 (i : grid0.Coords) : Fin 3 → Nat :=
  let c0_99 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v128 : Index := Scalar.indexCast v4
  let c192_100 : Index := 192#32
  ![0, v128.toNat, 192]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.muli arg1 c128_i32_0
  let c128_i32_1 : BitVec 32 := 128#32
  let v2 : BitVec 32 := Scalar.subi v1 c128_i32_1
  let c0_i32 : BitVec 32 := 0#32
  let c1664_i32 : BitVec 32 := 1664#32
  let v3 : BitVec 32 := Scalar.maxsi c0_i32 v2
  let v4 : BitVec 32 := Scalar.minsi c1664_i32 v3
  let v5 : BitVec 32 := Scalar.subi v0 v4
  let c128_i32_2 : BitVec 32 := 128#32
  let v6 : BitVec 32 := Scalar.divsi v5 c128_i32_2
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c0_i32_5 : BitVec 32 := 0#32
  let v12 : BitVec 1 := Scalar.cmpi .sgt c128_i32_2 c0_i32_5
  let v13 : BitVec 32 := Scalar.extui v12
  let c0_i32_6 : BitVec 32 := 0#32
  let v14 : BitVec 1 := Scalar.cmpi .slt c128_i32_2 c0_i32_6
  let v15 : BitVec 32 := Scalar.extui v14
  let v16 : BitVec 32 := Scalar.subi v13 v15
  let v17 : BitVec 1 := Scalar.cmpi .ne v11 v16
  let v18 : BitVec 32 := Scalar.remsi v5 c128_i32_2
  let c0_i32_7 : BitVec 32 := 0#32
  let v19 : BitVec 1 := Scalar.cmpi .ne v18 c0_i32_7
  let v20 : BitVec 1 := Scalar.andi v17 v19
  let c1_i32 : BitVec 32 := 1#32
  let v21 : BitVec 32 := Scalar.subi v6 c1_i32
  let v22 : BitVec 32 := Scalar.select v20 v21 v6
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x4608 : Shape := ⟨3, ![16, 2048, 4608]⟩
abbrev S1x16 : Shape := ⟨2, ![1, 16]⟩
abbrev S1x1024 : Shape := ⟨2, ![1, 1024]⟩
abbrev S16x2048x1024 : Shape := ⟨3, ![16, 2048, 1024]⟩
abbrev S16x2048x16x64 : Shape := ⟨4, ![16, 2048, 16, 64]⟩
abbrev S16x2048x256 : Shape := ⟨3, ![16, 2048, 256]⟩
abbrev S16x2048x4x64 : Shape := ⟨4, ![16, 2048, 4, 64]⟩
abbrev S16 : Shape := ⟨1, ![16]⟩
abbrev S16x16x128x4x4x64 : Shape := ⟨6, ![16, 16, 128, 4, 4, 64]⟩
abbrev S_ : Shape := ⟨0, ![]⟩
abbrev S16x2304x4x64 : Shape := ⟨4, ![16, 2304, 4, 64]⟩
abbrev S16x18x128x4x64 : Shape := ⟨5, ![16, 18, 128, 4, 64]⟩
abbrev S16x16x128x4x64 : Shape := ⟨5, ![16, 16, 128, 4, 64]⟩
abbrev S16x16x384x4x64 : Shape := ⟨5, ![16, 16, 384, 4, 64]⟩
abbrev S16x16x4x384x128x4 : Shape := ⟨6, ![16, 16, 4, 384, 128, 4]⟩
abbrev S16x16x4x4x128x384 : Shape := ⟨6, ![16, 16, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S4x4 : Shape := ⟨2, ![4, 4]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S1x1x4x4x128x384 : Shape := ⟨6, ![1, 1, 4, 4, 128, 384]⟩
abbrev S1x16x1x1x128x384 : Shape := ⟨6, ![1, 16, 1, 1, 128, 384]⟩
abbrev S16x16x4x4x128 : Shape := ⟨5, ![16, 16, 4, 4, 128]⟩
abbrev S16x16x4x4x128x1 : Shape := ⟨6, ![16, 16, 4, 4, 128, 1]⟩
abbrev S1x1x4x4x1x1 : Shape := ⟨6, ![1, 1, 4, 4, 1, 1]⟩
abbrev S16x16x4x64x4x128 : Shape := ⟨6, ![16, 16, 4, 64, 4, 128]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 144
  | .vmem => 0
  | .smem => 0
  | _ => 0

abbrev hbmTy0_0 (i : Nat) : BufTy := match i % 128 with
  | 0 => ⟨S16x2048x4608, .bf16⟩
  | 1 => ⟨S1x16, .f32⟩
  | 2 => ⟨S1x1024, .f32⟩
  | 3 => ⟨S16x2048x4608, .f32⟩
  | 4 => ⟨S16x2048x1024, .f32⟩
  | 5 => ⟨S16x2048x16x64, .f32⟩
  | 6 => ⟨S16x2048x256, .f32⟩
  | 7 => ⟨S16x2048x4x64, .f32⟩
  | 8 => ⟨S16x2048x256, .f32⟩
  | 9 => ⟨S16x2048x4x64, .f32⟩
  | 10 => ⟨S16, .f32⟩
  | 11 => ⟨S16x16x128x4x4x64, .f32⟩
  | 12 => ⟨S_, .i32⟩
  | 13 => ⟨S_, .f32⟩
  | 14 => ⟨S16x2304x4x64, .f32⟩
  | 15 => ⟨S16x18x128x4x64, .f32⟩
  | 16 => ⟨S_, .i32⟩
  | 17 => ⟨S_, .f32⟩
  | 18 => ⟨S16x2304x4x64, .f32⟩
  | 19 => ⟨S16x18x128x4x64, .f32⟩
  | 20 => ⟨S16x16x128x4x64, .f32⟩
  | 21 => ⟨S16x16x128x4x64, .f32⟩
  | 22 => ⟨S16x16x128x4x64, .f32⟩
  | 23 => ⟨S16x16x384x4x64, .f32⟩
  | 24 => ⟨S16x16x128x4x64, .f32⟩
  | 25 => ⟨S16x16x128x4x64, .f32⟩
  | 26 => ⟨S16x16x128x4x64, .f32⟩
  | 27 => ⟨S16x16x384x4x64, .f32⟩
  | 28 => ⟨S16x16x4x384x128x4, .f32⟩
  | 29 => ⟨S16x16x4x4x128x384, .f32⟩
  | 30 => ⟨S_, .f32⟩
  | 31 => ⟨S16x16x4x4x128x384, .f32⟩
  | 32 => ⟨S16x16x4x4x128x384, .f32⟩
  | 33 => ⟨S128, .i32⟩
  | 34 => ⟨S128x1, .i32⟩
  | 35 => ⟨S384, .i32⟩
  | 36 => ⟨S1x384, .i32⟩
  | 37 => ⟨S_, .i32⟩
  | 38 => ⟨S128x1, .i32⟩
  | 39 => ⟨S128x1, .i32⟩
  | 40 => ⟨S128x384, .i32⟩
  | 41 => ⟨S128x384, .i32⟩
  | 42 => ⟨S128x384, .i32⟩
  | 43 => ⟨S128x384, .i32⟩
  | 44 => ⟨S16, .i32⟩
  | 45 => ⟨S16x1, .i32⟩
  | 46 => ⟨S_, .i32⟩
  | 47 => ⟨S16x1, .i32⟩
  | 48 => ⟨S16x1, .i32⟩
  | 49 => ⟨S_, .i32⟩
  | 50 => ⟨S16x1, .i32⟩
  | 51 => ⟨S16x1, .i32⟩
  | 52 => ⟨S384, .i32⟩
  | 53 => ⟨S1x384, .i32⟩
  | 54 => ⟨S16x384, .i32⟩
  | 55 => ⟨S16x384, .i32⟩
  | 56 => ⟨S16x384, .i32⟩
  | 57 => ⟨S_, .i32⟩
  | 58 => ⟨S128x384, .i32⟩
  | 59 => ⟨S128x384, .i1⟩
  | 60 => ⟨S1x128x384, .i1⟩
  | 61 => ⟨S_, .i32⟩
  | 62 => ⟨S16x384, .i32⟩
  | 63 => ⟨S16x384, .i1⟩
  | 64 => ⟨S_, .i32⟩
  | 65 => ⟨S16x384, .i32⟩
  | 66 => ⟨S16x384, .i1⟩
  | 67 => ⟨S16x384, .i1⟩
  | 68 => ⟨S16x1x384, .i1⟩
  | 69 => ⟨S16x128x384, .i1⟩
  | 70 => ⟨S16x128x384, .i1⟩
  | 71 => ⟨S16x128x384, .i1⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S16, .f32⟩
  | 86 => ⟨S4x4, .f32⟩
  | 87 => ⟨S4x4x1x1, .f32⟩
  | 88 => ⟨S128x384, .f32⟩
  | 89 => ⟨S1x1x128x384, .f32⟩
  | 90 => ⟨S4x4x128x384, .f32⟩
  | 91 => ⟨S4x4x128x384, .f32⟩
  | 92 => ⟨S4x4x128x384, .f32⟩
  | 93 => ⟨S1x1x4x4x128x384, .f32⟩
  | 94 => ⟨S16x16x4x4x128x384, .f32⟩
  | 95 => ⟨S16x16x4x4x128x384, .f32⟩
  | 96 => ⟨S1x16x1x1x128x384, .i1⟩
  | 97 => ⟨S_, .f32⟩
  | 98 => ⟨S_, .f32⟩
  | 99 => ⟨S16x16x4x4x128x384, .i1⟩
  | 100 => ⟨S16x16x4x4x128x384, .f32⟩
  | 101 => ⟨S16x16x4x4x128x384, .f32⟩
  | 102 => ⟨S4x4, .f32⟩
  | 103 => ⟨S4x4x1x1, .f32⟩
  | 104 => ⟨S_, .f32⟩
  | 105 => ⟨S16x16x4x4x128, .f32⟩
  | 106 => ⟨S16x16x4x4x128x1, .f32⟩
  | 107 => ⟨S1x1x4x4x1x1, .f32⟩
  | 108 => ⟨S16x16x4x4x128x1, .f32⟩
  | 109 => ⟨S16x16x4x4x128x1, .f32⟩
  | 110 => ⟨S16x16x4x4x128x384, .f32⟩
  | 111 => ⟨S16x16x4x4x128x384, .f32⟩
  | 112 => ⟨S16x16x4x4x128x384, .f32⟩
  | 113 => ⟨S_, .f32⟩
  | 114 => ⟨S16x16x4x4x128, .f32⟩
  | 115 => ⟨S16x16x4x4x128x1, .f32⟩
  | 116 => ⟨S1x1x4x4x1x1, .f32⟩
  | 117 => ⟨S16x16x4x4x128x1, .f32⟩
  | 118 => ⟨S16x16x4x4x128x1, .f32⟩
  | 119 => ⟨S16x16x4x4x128x1, .f32⟩
  | 120 => ⟨S16x16x4x4x128x1, .f32⟩
  | 121 => ⟨S16x16x4x4x128x384, .f32⟩
  | 122 => ⟨S16x16x4x4x128x384, .f32⟩
  | 123 => ⟨S16x16x4x64x4x128, .f32⟩
  | 124 => ⟨S16x16x128x4x4x64, .f32⟩
  | 125 => ⟨S16x2048x1024, .f32⟩
  | 126 => ⟨S1024, .f32⟩
  | 127 => ⟨S16x2048x1024, .f32⟩
  | _ => ⟨S16x2048x4608, .bf16⟩

abbrev hbmTy0_1 (i : Nat) : BufTy := match i % 128 with
  | 0 => ⟨S_, .f32⟩
  | 1 => ⟨S16x2048, .f32⟩
  | 2 => ⟨S16x2048x1, .f32⟩
  | 3 => ⟨S_, .f32⟩
  | 4 => ⟨S16x2048x1, .f32⟩
  | 5 => ⟨S16x2048x1, .f32⟩
  | 6 => ⟨S_, .f32⟩
  | 7 => ⟨S16x2048x1, .f32⟩
  | 8 => ⟨S16x2048x1, .f32⟩
  | 9 => ⟨S16x2048x1, .f32⟩
  | 10 => ⟨S16x2048x1024, .f32⟩
  | 11 => ⟨S16x2048x1024, .f32⟩
  | 12 => ⟨S1x1x1024, .f32⟩
  | 13 => ⟨S16x2048x1024, .f32⟩
  | 14 => ⟨S16x2048x1024, .f32⟩
  | 15 => ⟨S16x2048x1024, .bf16⟩
  | _ => ⟨S16x2048x4608, .bf16⟩

abbrev hbmTy (i : Nat) : BufTy := match i / 128 with
  | 0 => hbmTy0_0 i
  | 1 => hbmTy0_1 i
  | _ => ⟨S16x2048x4608, .bf16⟩

abbrev bufTy : (tb : Table) → Fin (tcTables nBuf tb) → BufTy
  | .hbm, ⟨i, _⟩ => hbmTy i
  | _, _ => ⟨S16x2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_14 : Ref sig .tc := ⟨.hbm, 128, rfl⟩
abbrev main_v104 : Ref sig .tc := ⟨.hbm, 129, rfl⟩
abbrev main_v105 : Ref sig .tc := ⟨.hbm, 130, rfl⟩
abbrev main_cst_15 : Ref sig .tc := ⟨.hbm, 131, rfl⟩
abbrev main_v106 : Ref sig .tc := ⟨.hbm, 132, rfl⟩
abbrev main_v107 : Ref sig .tc := ⟨.hbm, 133, rfl⟩
abbrev main_cst_16 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩

abbrev nD : Nat := 1
abbrev τ : Topo := Topo.v7x

variable {F : FTy → Type} [FloatOps F]
-- ==== Kernel2.lean ====
abbrev S544 : Shape := ⟨1, ![544]⟩
abbrev S1 : Shape := ⟨1, ![1]⟩
abbrev S4456448x128 : Shape := ⟨2, ![4456448, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S8192x128 : Shape := ⟨2, ![8192, 128]⟩
abbrev S1x2048x4096 : Shape := ⟨3, ![1, 2048, 4096]⟩
abbrev S1x1x4096 : Shape := ⟨3, ![1, 1, 4096]⟩
abbrev S1x2048x2048 : Shape := ⟨3, ![1, 2048, 2048]⟩
abbrev S1x1x2048 : Shape := ⟨3, ![1, 1, 2048]⟩
abbrev S512x2048 : Shape := ⟨2, ![512, 2048]⟩
abbrev S512x8x2x128 : Shape := ⟨4, ![512, 8, 2, 128]⟩
abbrev S512x1x1x128 : Shape := ⟨4, ![512, 1, 1, 128]⟩
abbrev S512x128 : Shape := ⟨2, ![512, 128]⟩
abbrev S1x2048 : Shape := ⟨2, ![1, 2048]⟩
abbrev S1x2048x512 : Shape := ⟨3, ![1, 2048, 512]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S1x512x2048 : Shape := ⟨3, ![1, 512, 2048]⟩
abbrev S512x1024 : Shape := ⟨2, ![512, 1024]⟩
abbrev S4096x1x128 : Shape := ⟨3, ![4096, 1, 128]⟩
abbrev S4096x2x128 : Shape := ⟨3, ![4096, 2, 128]⟩

abbrev nBuf : Space → Nat
  | .hbm => 8
  | .vmem => 11
  | .smem => 2
  | _ => 0

abbrev bufTy : (tb : Table) → Fin (tcTables nBuf tb) → BufTy
  | .hbm, ⟨0, _⟩ => ⟨S4456448x128, .bf16⟩
  | .hbm, ⟨1, _⟩ => ⟨S32x2048x4096, .bf16⟩
  | .hbm, ⟨2, _⟩ => ⟨S32x4096, .f32⟩
  | .hbm, ⟨3, _⟩ => ⟨S32x2048x2048, .bf16⟩
  | .hbm, ⟨4, _⟩ => ⟨S32x2048, .f32⟩
  | .hbm, ⟨5, _⟩ => ⟨S32x1x4096, .f32⟩
  | .hbm, ⟨6, _⟩ => ⟨S32x1x2048, .f32⟩
  | .hbm, ⟨7, _⟩ => ⟨S4456448x128, .bf16⟩
  | .local _ .vmem, ⟨0, _⟩ => ⟨S8192x128, .bf16⟩
  | .local _ .vmem, ⟨1, _⟩ => ⟨S8192x128, .bf16⟩
  | .local _ .vmem, ⟨2, _⟩ => ⟨S1x2048x4096, .bf16⟩
  | .local _ .vmem, ⟨3, _⟩ => ⟨S1x1x4096, .f32⟩
  | .local _ .vmem, ⟨4, _⟩ => ⟨S1x1x4096, .f32⟩
  | .local _ .vmem, ⟨5, _⟩ => ⟨S1x2048x2048, .bf16⟩
  | .local _ .vmem, ⟨6, _⟩ => ⟨S1x1x2048, .f32⟩
  | .local _ .vmem, ⟨7, _⟩ => ⟨S1x1x2048, .f32⟩
  | .local _ .vmem, ⟨8, _⟩ => ⟨S8192x128, .bf16⟩
  | .local _ .vmem, ⟨9, _⟩ => ⟨S8192x128, .bf16⟩
  | .local _ .vmem, ⟨10, _⟩ => ⟨S512x2048, .bf16⟩
  | .local _ .smem, ⟨0, _⟩ => ⟨S544, .i32⟩
  | .local _ .smem, ⟨1, _⟩ => ⟨S1, .i32⟩
  | _, _ => ⟨S4456448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S544 : Shape := ⟨1, ![544]⟩
abbrev S1 : Shape := ⟨1, ![1]⟩
abbrev S4456448x128 : Shape := ⟨2, ![4456448, 128]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S278528x8x2x128 : Shape := ⟨4, ![278528, 8, 2, 128]⟩
abbrev S278528x8x1x128 : Shape := ⟨4, ![278528, 8, 1, 128]⟩
abbrev S278528x8x128 : Shape := ⟨3, ![278528, 8, 128]⟩
abbrev S278528x1024 : Shape := ⟨2, ![278528, 1024]⟩
abbrev S278528x2048 : Shape := ⟨2, ![278528, 2048]⟩
abbrev S544x512x2048 : Shape := ⟨3, ![544, 512, 2048]⟩
abbrev S_ : Shape := ⟨0, ![]⟩
abbrev S544x1 : Shape := ⟨2, ![544, 1]⟩
abbrev S544x2048x4096 : Shape := ⟨3, ![544, 2048, 4096]⟩
abbrev S544x512x4096 : Shape := ⟨3, ![544, 512, 4096]⟩
abbrev S544x4096 : Shape := ⟨2, ![544, 4096]⟩
abbrev S544x1x4096 : Shape := ⟨3, ![544, 1, 4096]⟩
abbrev S544x2048x2048 : Shape := ⟨3, ![544, 2048, 2048]⟩
abbrev S544x2048 : Shape := ⟨2, ![544, 2048]⟩
abbrev S544x1x2048 : Shape := ⟨3, ![544, 1, 2048]⟩
abbrev S544x1x1 : Shape := ⟨3, ![544, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S4456448x128, .bf16⟩
  | .hbm, ⟨3, _⟩ => ⟨S32x2048x4096, .bf16⟩
  | .hbm, ⟨4, _⟩ => ⟨S32x4096, .f32⟩
  | .hbm, ⟨5, _⟩ => ⟨S32x2048x2048, .bf16⟩
  | .hbm, ⟨6, _⟩ => ⟨S32x2048, .f32⟩
  | .hbm, ⟨7, _⟩ => ⟨S278528x8x2x128, .bf16⟩
  | .hbm, ⟨8, _⟩ => ⟨S278528x8x1x128, .bf16⟩
  | .hbm, ⟨9, _⟩ => ⟨S278528x8x128, .bf16⟩
  | .hbm, ⟨10, _⟩ => ⟨S278528x1024, .bf16⟩
  | .hbm, ⟨11, _⟩ => ⟨S278528x8x1x128, .bf16⟩
  | .hbm, ⟨12, _⟩ => ⟨S278528x8x128, .bf16⟩
  | .hbm, ⟨13, _⟩ => ⟨S278528x1024, .bf16⟩
  | .hbm, ⟨14, _⟩ => ⟨S278528x2048, .bf16⟩
  | .hbm, ⟨15, _⟩ => ⟨S544x512x2048, .bf16⟩
  | .hbm, ⟨16, _⟩ => ⟨S_, .i32⟩
  | .hbm, ⟨17, _⟩ => ⟨S544, .i32⟩
  | .hbm, ⟨18, _⟩ => ⟨S544, .i1⟩
  | .hbm, ⟨19, _⟩ => ⟨S_, .i32⟩
  | .hbm, ⟨20, _⟩ => ⟨S544, .i32⟩
  | .hbm, ⟨21, _⟩ => ⟨S544, .i32⟩
  | .hbm, ⟨22, _⟩ => ⟨S544, .i32⟩
  | .hbm, ⟨23, _⟩ => ⟨S544x1, .i32⟩
  | .hbm, ⟨24, _⟩ => ⟨S544x2048x4096, .bf16⟩
  | .hbm, ⟨25, _⟩ => ⟨S544x512x4096, .f32⟩
  | .hbm, ⟨26, _⟩ => ⟨S_, .i32⟩
  | .hbm, ⟨27, _⟩ => ⟨S544, .i32⟩
  | .hbm, ⟨28, _⟩ => ⟨S544, .i1⟩
  | .hbm, ⟨29, _⟩ => ⟨S_, .i32⟩
  | .hbm, ⟨30, _⟩ => ⟨S544, .i32⟩
  | .hbm, ⟨31, _⟩ => ⟨S544, .i32⟩
  | .hbm, ⟨32, _⟩ => ⟨S544, .i32⟩
  | .hbm, ⟨33, _⟩ => ⟨S544x1, .i32⟩
  | .hbm, ⟨34, _⟩ => ⟨S544x4096, .f32⟩
  | .hbm, ⟨35, _⟩ => ⟨S544x1x4096, .f32⟩
  | .hbm, ⟨36, _⟩ => ⟨S544x512x4096, .f32⟩
  | .hbm, ⟨37, _⟩ => ⟨S544x512x4096, .f32⟩
  | .hbm, ⟨38, _⟩ => ⟨S544x512x2048, .f32⟩
  | .hbm, ⟨39, _⟩ => ⟨S_, .f32⟩
  | .hbm, ⟨40, _⟩ => ⟨S544x512x2048, .f32⟩
  | .hbm, ⟨41, _⟩ => ⟨S544x512x2048, .f32⟩
  | .hbm, ⟨42, _⟩ => ⟨S544x512x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S544x512x2048, .f32⟩
  | .hbm, ⟨47, _⟩ => ⟨S544x512x2048, .f32⟩
  | .hbm, ⟨48, _⟩ => ⟨S_, .f32⟩
  | .hbm, ⟨49, _⟩ => ⟨S544x512x2048, .f32⟩
  | .hbm, ⟨50, _⟩ => ⟨S544x512x2048, .f32⟩
  | .hbm, ⟨51, _⟩ => ⟨S_, .f32⟩
  | .hbm, ⟨52, _⟩ => ⟨S544x512x2048, .f32⟩
  | .hbm, ⟨53, _⟩ => ⟨S544x512x2048, .f32⟩
  | .hbm, ⟨54, _⟩ => ⟨S544x512x2048, .f32⟩
  | .hbm, ⟨55, _⟩ => ⟨S544x512x2048, .f32⟩
  | .hbm, ⟨56, _⟩ => ⟨S_, .f32⟩
  | .hbm, ⟨57, _⟩ => ⟨S544x512x2048, .f32⟩
  | .hbm, ⟨58, _⟩ => ⟨S544x512x2048, .f32⟩
  | .hbm, ⟨59, _⟩ => ⟨S_, .f32⟩
  | .hbm, ⟨60, _⟩ => ⟨S544x512x2048, .f32⟩
  | .hbm, ⟨61, _⟩ => ⟨S544x512x2048, .f32⟩
  | .hbm, ⟨62, _⟩ => ⟨S544x512x2048, .f32⟩
  | .hbm, ⟨63, _⟩ => ⟨S_, .f32⟩
  | .hbm, ⟨64, _⟩ => ⟨S544x512x2048, .f32⟩
  | .hbm, ⟨65, _⟩ => ⟨S544x512x2048, .f32⟩
  | .hbm, ⟨66, _⟩ => ⟨S544x512x2048, .f32⟩
  | .hbm, ⟨67, _⟩ => ⟨S_, .i32⟩
  | .hbm, ⟨68, _⟩ => ⟨S544, .i32⟩
  | .hbm, ⟨69, _⟩ => ⟨S544, .i1⟩
  | .hbm, ⟨70, _⟩ => ⟨S_, .i32⟩
  | .hbm, ⟨71, _⟩ => ⟨S544, .i32⟩
  | .hbm, ⟨72, _⟩ => ⟨S544, .i32⟩
  | .hbm, ⟨73, _⟩ => ⟨S544, .i32⟩
  | .hbm, ⟨74, _⟩ => ⟨S544x1, .i32⟩
  | .hbm, ⟨75, _⟩ => ⟨S544x2048x2048, .bf16⟩
  | .hbm, ⟨76, _⟩ => ⟨S544x2048x2048, .f32⟩
  | .hbm, ⟨77, _⟩ => ⟨S544x512x2048, .f32⟩
  | .hbm, ⟨78, _⟩ => ⟨S_, .i32⟩
  | .hbm, ⟨79, _⟩ => ⟨S544, .i32⟩
  | .hbm, ⟨80, _⟩ => ⟨S544, .i1⟩
  | .hbm, ⟨81, _⟩ => ⟨S_, .i32⟩
  | .hbm, ⟨82, _⟩ => ⟨S544, .i32⟩
  | .hbm, ⟨83, _⟩ => ⟨S544, .i32⟩
  | .hbm, ⟨84, _⟩ => ⟨S544, .i32⟩
  | .hbm, ⟨85, _⟩ => ⟨S544x1, .i32⟩
  | .hbm, ⟨86, _⟩ => ⟨S544x2048, .f32⟩
  | .hbm, ⟨87, _⟩ => ⟨S544x1x2048, .f32⟩
  | .hbm, ⟨88, _⟩ => ⟨S544x512x2048, .f32⟩
  | .hbm, ⟨89, _⟩ => ⟨S544x512x2048, .f32⟩
  | .hbm, ⟨90, _⟩ => ⟨S544, .i32⟩
  | .hbm, ⟨91, _⟩ => ⟨S_, .i32⟩
  | .hbm, ⟨92, _⟩ => ⟨S544, .i32⟩
  | .hbm, ⟨93, _⟩ => ⟨S544, .i1⟩
  | .hbm, ⟨94, _⟩ => ⟨S544x1x1, .i1⟩
  | .hbm, ⟨95, _⟩ => ⟨S_, .f32⟩
  | .hbm, ⟨96, _⟩ => ⟨S_, .f32⟩
  | .hbm, ⟨97, _⟩ => ⟨S544x512x2048, .i1⟩
  | .hbm, ⟨98, _⟩ => ⟨S544x512x2048, .f32⟩
  | .hbm, ⟨99, _⟩ => ⟨S544x512x2048, .f32⟩
  | .hbm, ⟨100, _⟩ => ⟨S544x512x2048, .bf16⟩
  | .hbm, ⟨101, _⟩ => ⟨S278528x2048, .bf16⟩
  | .hbm, ⟨102, _⟩ => ⟨S278528x1024, .bf16⟩
  | .hbm, ⟨103, _⟩ => ⟨S278528x8x128, .bf16⟩
  | .hbm, ⟨104, _⟩ => ⟨S278528x1024, .bf16⟩
  | .hbm, ⟨105, _⟩ => ⟨S278528x8x128, .bf16⟩
  | .hbm, ⟨106, _⟩ => ⟨S278528x8x1x128, .bf16⟩
  | .hbm, ⟨107, _⟩ => ⟨S278528x8x1x128, .bf16⟩
  | .hbm, ⟨108, _⟩ => ⟨S278528x8x2x128, .bf16⟩
  | .hbm, ⟨109, _⟩ => ⟨S4456448x128, .bf16⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Kernel3.lean ====
abbrev S16x2048x2048 : Shape := ⟨3, ![16, 2048, 2048]⟩
abbrev S1x2048 : Shape := ⟨2, ![1, 2048]⟩
abbrev S1x2048x4608 : Shape := ⟨3, ![1, 2048, 4608]⟩
abbrev S1x64 : Shape := ⟨2, ![1, 64]⟩
abbrev S8x8 : Shape := ⟨2, ![8, 8]⟩
abbrev S64x64 : Shape := ⟨2, ![64, 64]⟩
abbrev S32768x2048 : Shape := ⟨2, ![32768, 2048]⟩
abbrev S2048 : Shape := ⟨1, ![2048]⟩
abbrev S2048x4608 : Shape := ⟨2, ![2048, 4608]⟩
abbrev S64 : Shape := ⟨1, ![64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x4x64 : Shape := ⟨4, ![1, 1, 4, 64]⟩
abbrev S1x256 : Shape := ⟨2, ![1, 256]⟩
abbrev S32768x4608 : Shape := ⟨2, ![32768, 4608]⟩
abbrev S512x2048 : Shape := ⟨2, ![512, 2048]⟩
abbrev S512x4608 : Shape := ⟨2, ![512, 4608]⟩
abbrev S512 : Shape := ⟨1, ![512]⟩
abbrev S512x1 : Shape := ⟨2, ![512, 1]⟩
abbrev S2048x512 : Shape := ⟨2, ![2048, 512]⟩
abbrev S512x256 : Shape := ⟨2, ![512, 256]⟩
abbrev S256x256 : Shape := ⟨2, ![256, 256]⟩

abbrev nBuf : Space → Nat
  | .hbm => 30
  | .vmem => 9
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4608, .f32⟩
  | .hbm, ⟨3, _⟩ => ⟨S1x64, .f32⟩
  | .hbm, ⟨4, _⟩ => ⟨S1x64, .f32⟩
  | .hbm, ⟨5, _⟩ => ⟨S8x8, .f32⟩
  | .hbm, ⟨6, _⟩ => ⟨S64x64, .f32⟩
  | .hbm, ⟨7, _⟩ => ⟨S32768x2048, .f32⟩
  | .hbm, ⟨8, _⟩ => ⟨S2048, .f32⟩
  | .hbm, ⟨9, _⟩ => ⟨S2048x4608, .f32⟩
  | .hbm, ⟨10, _⟩ => ⟨S2048x4608, .bf16⟩
  | .hbm, ⟨11, _⟩ => ⟨S64, .f32⟩
  | .hbm, ⟨12, _⟩ => ⟨S64, .f32⟩
  | .hbm, ⟨13, _⟩ => ⟨S8x1x8x1, .f32⟩
  | .hbm, ⟨14, _⟩ => ⟨S1x64x1x64, .f32⟩
  | .hbm, ⟨15, _⟩ => ⟨S8x64x8x64, .f32⟩
  | .hbm, ⟨16, _⟩ => ⟨S8x64x8x64, .f32⟩
  | .hbm, ⟨17, _⟩ => ⟨S8x64x8x64, .f32⟩
  | .hbm, ⟨18, _⟩ => ⟨S512x512, .f32⟩
  | .hbm, ⟨19, _⟩ => ⟨S1x64, .f32⟩
  | .hbm, ⟨20, _⟩ => ⟨S1x1x1x64, .f32⟩
  | .hbm, ⟨21, _⟩ => ⟨S1x1x8x64, .f32⟩
  | .hbm, ⟨22, _⟩ => ⟨S1x512, .f32⟩
  | .hbm, ⟨23, _⟩ => ⟨S1x64, .f32⟩
  | .hbm, ⟨24, _⟩ => ⟨S1x1x1x64, .f32⟩
  | .hbm, ⟨25, _⟩ => ⟨S1x1x4x64, .f32⟩
  | .hbm, ⟨26, _⟩ => ⟨S1x256, .f32⟩
  | .hbm, ⟨27, _⟩ => ⟨S1x2048, .f32⟩
  | .hbm, ⟨28, _⟩ => ⟨S512x512, .bf16⟩
  | .hbm, ⟨29, _⟩ => ⟨S32768x4608, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S1x512, .f32⟩
  | .local _ .vmem, ⟨5, _⟩ => ⟨S1x256, .f32⟩
  | .local _ .vmem, ⟨6, _⟩ => ⟨S512x512, .bf16⟩
  | .local _ .vmem, ⟨7, _⟩ => ⟨S512x4608, .bf16⟩
  | .local _ .vmem, ⟨8, _⟩ => ⟨S512x4608, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x2048 : Shape := ⟨3, ![16, 2048, 2048]⟩
abbrev S1x2048 : Shape := ⟨2, ![1, 2048]⟩
abbrev S1x2048x4608 : Shape := ⟨3, ![1, 2048, 4608]⟩
abbrev S1x64 : Shape := ⟨2, ![1, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4608 : Shape := ⟨2, ![2048, 4608]⟩
abbrev S16x2048x4608 : Shape := ⟨3, ![16, 2048, 4608]⟩
abbrev S16x2048x1024 : Shape := ⟨3, ![16, 2048, 1024]⟩
abbrev S16x2048x16x64 : Shape := ⟨4, ![16, 2048, 16, 64]⟩
abbrev S64 : Shape := ⟨1, ![64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x256 : Shape := ⟨3, ![16, 2048, 256]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x3328 : Shape := ⟨3, ![16, 2048, 3328]⟩
abbrev S32768x4608 : Shape := ⟨2, ![32768, 4608]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4608, .f32⟩
  | .hbm, ⟨3, _⟩ => ⟨S1x64, .f32⟩
  | .hbm, ⟨4, _⟩ => ⟨S1x64, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x4608, .f32⟩
  | .hbm, ⟨23, _⟩ => ⟨S16x2048x4608, .f32⟩
  | .hbm, ⟨24, _⟩ => ⟨S16x2048x1024, .f32⟩
  | .hbm, ⟨25, _⟩ => ⟨S16x2048x16x64, .f32⟩
  | .hbm, ⟨26, _⟩ => ⟨S64, .f32⟩
  | .hbm, ⟨27, _⟩ => ⟨S16x2048x16x64, .f32⟩
  | .hbm, ⟨28, _⟩ => ⟨S_, .f32⟩
  | .hbm, ⟨29, _⟩ => ⟨S16x2048x16, .f32⟩
  | .hbm, ⟨30, _⟩ => ⟨S16x2048x16x1, .f32⟩
  | .hbm, ⟨31, _⟩ => ⟨S_, .f32⟩
  | .hbm, ⟨32, _⟩ => ⟨S16x2048x16x1, .f32⟩
  | .hbm, ⟨33, _⟩ => ⟨S16x2048x16x1, .f32⟩
  | .hbm, ⟨34, _⟩ => ⟨S_, .f32⟩
  | .hbm, ⟨35, _⟩ => ⟨S16x2048x16x1, .f32⟩
  | .hbm, ⟨36, _⟩ => ⟨S16x2048x16x1, .f32⟩
  | .hbm, ⟨37, _⟩ => ⟨S16x2048x16x1, .f32⟩
  | .hbm, ⟨38, _⟩ => ⟨S16x2048x16x64, .f32⟩
  | .hbm, ⟨39, _⟩ => ⟨S16x2048x16x64, .f32⟩
  | .hbm, ⟨40, _⟩ => ⟨S1x1x1x64, .f32⟩
  | .hbm, ⟨41, _⟩ => ⟨S16x2048x16x64, .f32⟩
  | .hbm, ⟨42, _⟩ => ⟨S16x2048x16x64, .f32⟩
  | .hbm, ⟨43, _⟩ => ⟨S16x2048x1024, .f32⟩
  | .hbm, ⟨44, _⟩ => ⟨S16x2048x256, .f32⟩
  | .hbm, ⟨45, _⟩ => ⟨S16x2048x4x64, .f32⟩
  | .hbm, ⟨46, _⟩ => ⟨S64, .f32⟩
  | .hbm, ⟨47, _⟩ => ⟨S16x2048x4x64, .f32⟩
  | .hbm, ⟨48, _⟩ => ⟨S_, .f32⟩
  | .hbm, ⟨49, _⟩ => ⟨S16x2048x4, .f32⟩
  | .hbm, ⟨50, _⟩ => ⟨S16x2048x4x1, .f32⟩
  | .hbm, ⟨51, _⟩ => ⟨S_, .f32⟩
  | .hbm, ⟨52, _⟩ => ⟨S16x2048x4x1, .f32⟩
  | .hbm, ⟨53, _⟩ => ⟨S16x2048x4x1, .f32⟩
  | .hbm, ⟨54, _⟩ => ⟨S_, .f32⟩
  | .hbm, ⟨55, _⟩ => ⟨S16x2048x4x1, .f32⟩
  | .hbm, ⟨56, _⟩ => ⟨S16x2048x4x1, .f32⟩
  | .hbm, ⟨57, _⟩ => ⟨S16x2048x4x1, .f32⟩
  | .hbm, ⟨58, _⟩ => ⟨S16x2048x4x64, .f32⟩
  | .hbm, ⟨59, _⟩ => ⟨S16x2048x4x64, .f32⟩
  | .hbm, ⟨60, _⟩ => ⟨S1x1x1x64, .f32⟩
  | .hbm, ⟨61, _⟩ => ⟨S16x2048x4x64, .f32⟩
  | .hbm, ⟨62, _⟩ => ⟨S16x2048x4x64, .f32⟩
  | .hbm, ⟨63, _⟩ => ⟨S16x2048x256, .f32⟩
  | .hbm, ⟨64, _⟩ => ⟨S16x2048x3328, .f32⟩
  | .hbm, ⟨65, _⟩ => ⟨S16x2048x4608, .f32⟩
  | .hbm, ⟨66, _⟩ => ⟨S16x2048x4608, .bf16⟩
  | .hbm, ⟨67, _⟩ => ⟨S32768x4608, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.ExpertsSpec.lean ====
/- One row of the experts in plain arithmetic: the gated unit and the two matrix products. -/
module

public import Idealize.ShloMosaic.Lib.Pipeline.ValueKit

@[expose] public section

noncomputable section

namespace Cert.Proof.Experts

open Idealize.ShloMosaic

/-- The gated unit: the gate cut off above at 7, the linear part clipped to [-7, 7]. -/
def act (g u : EReal) : EReal :=
  min g (Ideal.ofBits .f32 1088421888#32)
    * Ideal.logistic (Ideal.ofBits .f32 1071242019#32 * min g (Ideal.ofBits .f32 1088421888#32))
    * (min (Ideal.ofBits .f32 1088421888#32) (max (Ideal.ofBits .f32 3235905536#32) u) + 1)

/-- Columns of the gate and of the linear part of the first product. -/
def gateCol (f : Fin 2048) : Fin 4096 := ⟨f.val, by omega⟩
def linCol (f : Fin 2048) : Fin 4096 := ⟨2048 + f.val, by omega⟩

/-- One hidden value of a row `x`. -/
def hidden (x : Fin 2048 → EReal) (w : Fin 2048 → Fin 4096 → EReal) (b : Fin 4096 → EReal) (f : Fin 2048) : EReal :=
  act (∑ k : Fin 2048, x k * w k (gateCol f) + b (gateCol f)) (∑ k : Fin 2048, x k * w k (linCol f) + b (linCol f))

/-- One value of a row's result. -/
def expertRow (x : Fin 2048 → EReal) (w : Fin 2048 → Fin 4096 → EReal) (b : Fin 4096 → EReal)
    (v : Fin 2048 → Fin 2048 → EReal) (e : Fin 2048 → EReal) (d : Fin 2048) : EReal :=
  ∑ f : Fin 2048, hidden x w b f * v f d + e d

/-- The number of the line of 128 values that holds column `d` of row `r`: each row is eight pairs of lines, the second
    line of a pair holding the columns below 1024. -/
def lineNum (r d : ℕ) : ℕ := (r * 8 + d % 1024 / 128) * 2 + (1 - d / 1024)

/-- The place of column `d` in its line. -/
def lane (d : Fin 2048) : Fin 128 := ⟨d.val % 128, by omega⟩

/-- The column at place `l` of line `n`. -/
def lineCol (n : ℕ) (l : Fin 128) : Fin 2048 := ⟨(1 - n % 2) * 1024 + n % 16 / 2 * 128 + l.val, by have := l.isLt; omega⟩

/-- Column `512 j + y` of a row of four chunks. -/
def chunk (j : Fin 4) (y : Fin 512) : Fin 2048 := ⟨512 * j.val + y.val, by omega⟩

/-- A sum over a row's columns, chunk by chunk. -/
theorem sum_chunks (f : Fin 2048 → EReal) :
    ∑ k, f k = ∑ y, f (chunk 0 y) + ∑ y, f (chunk 1 y) + ∑ y, f (chunk 2 y) + ∑ y, f (chunk 3 y) := by
  have h : ∑ k, f k = ∑ p : Fin 4 × Fin 512, f (chunk p.1 p.2) := by
    refine (Fintype.sum_equiv (finProdFinEquiv (m := 4) (n := 512)) _ _ fun p => ?_).symm
    refine congrArg f (Fin.ext ?_)
    show 512 * p.1.val + p.2.val = p.2.val + 512 * p.1.val
    omega
  rw [h, Fintype.sum_prod_type, Fin.sum_univ_four]

end Cert.Proof.Experts

end

end
-- ==== Proof.ExpertsTables.lean ====
/- The experts call's precondition read back, and what it says of the two tables of words that the call's blocks are taken
   by: every block of every window lies inside its array. -/
module

public import proofs.«01_k».proof.Defs
public import proofs.«01_k».proof.Proof.Gen.Kernel2.Frame
public import proofs.«01_k».proof.Proof.Gen.Kernel2Ideal.Frame
public import Idealize.ShloMosaic.Lib.ReduceAll
public import Idealize.ShloMosaic.Lib.Affine
public import Idealize.ShloMosaic.Lib.WordArith
public import Idealize.ShloMosaic.Lib.Pipeline.ValueKit

@[expose] public section

set_option maxRecDepth 16384

noncomputable section

namespace Cert.Proof.Experts

open Idealize.ShloMosaic Idealize.ShloMosaic.TcCoe Idealize.SL.Sem

/-! ## Words -/

/-- The tables' words in range: every row block's expert is one of 32, and at least one block is in use. -/
def InRange (be : Fin 544 → BitVec 32) (nu : BitVec 32) : Prop :=
  (∀ i, (be i).toNat < 32) ∧ 1 ≤ nu.toNat ∧ nu.toNat < 2 ^ 31

/-- A bit made of a truth value is one where the value is true. -/
theorem of_bit {b : Bool} (h : BitVec.ofBool b = 1#1) : b = true := by revert h; cases b <;> decide

/-- A word that is at least 0 and below 32 as a signed word is below 32. -/
theorem toNat_of_range (w : BitVec 32) (h0 : IntOp.cmpi .sge w 0#32 = 1#1) (h1 : IntOp.cmpi .slt w 32#32 = 1#1) : w.toNat < 32 := by
  have a0 : (0 : ℤ) ≤ w.toInt := of_decide_eq_true (of_bit h0)
  have a1 : w.toInt < 32 := of_decide_eq_true (of_bit h1)
  rw [BitVec.toInt_eq_toNat_cond] at a0 a1
  have := w.isLt
  split at a0 <;> omega

/-- A word that is at least 1 as a signed word is a positive number below 2^31. -/
theorem toNat_of_pos (w : BitVec 32) (h : IntOp.cmpi .sge w 1#32 = 1#1) : 1 ≤ w.toNat ∧ w.toNat < 2 ^ 31 := by
  have a0 : (1 : ℤ) ≤ w.toInt := of_decide_eq_true (of_bit h)
  rw [BitVec.toInt_eq_toNat_cond] at a0
  have := w.isLt
  split at a0 <;> omega

/-- The row block a grid point reads: its own, or the last one in use. -/
theorem min_word (i : ℕ) (hi : i < 544) (v : BitVec 32) (h1 : 1 ≤ v.toNat) (h2 : v.toNat < 2 ^ 31) :
    (Scalar.minsi (BitVec.ofNat 32 i) (Scalar.subi v 1#32)).toNat = min i (v.toNat - 1) := by
  have e1 : (BitVec.ofNat 32 i).toNat = i := by rw [BitVec.toNat_ofNat]; omega
  have e2 : (Scalar.subi v 1#32).toNat = v.toNat - 1 := by
    show (v - 1#32).toNat = _
    rw [BitVec.toNat_sub]
    show (2 ^ 32 - 1 + v.toNat) % 2 ^ 32 = _
    omega
  refine (WordArith.toNat_minsi_of_lt _ _ (by omega) (by omega)).trans ?_
  rw [e1, e2]

/-! ## The precondition -/

/-- The side conditions of the precondition's operations. -/
theorem preFacts : Cert.Pre_blocks_in_range.Facts where
  bcast_S_S544 := by decide
  reducesTo_S544_S_d0 := by decide
  h_S_ := by decide
  shapeCasts_S1_S_ := by decide

/-- An array of one element has one index. -/
theorem one_idx (x y : (⟨1, ![1]⟩ : Shape).Idx) : x = y := by
  funext a
  fin_cases a
  exact Fin.ext ((Nat.lt_one_iff.mp (x 0).isLt).trans (Nat.lt_one_iff.mp (y 0).isLt).symm)

section
open Cert.Pre_blocks_in_range
variable {F : FTy → Type} [FloatOps F] [Facts]
open Facts

instance : Subsingleton S_.Idx := ⟨fun a b => funext fun i => i.elim0⟩

/-- What the precondition says of the two tables. -/
theorem range_of_pre (be : IVec S544 32) (nu : IVec S1 32) (x2 : FVec F S4456448x128 .bf16) (x3 : FVec F S32x2048x4096 .bf16)
    (x4 : FVec F S32x4096 .f32) (x5 : FVec F S32x2048x2048 .bf16) (x6 : FVec F S32x2048 .f32)
    (h : fn (F := F) be nu x2 x3 x4 x5 x6 = fun _ => 1#1) : InRange (fun i => be (ix1 i)) (nu (ix1 0)) := by
  have h0 := IntOp.andi_eq_one.mp (congrFun h ix0)
  refine ⟨fun i => ?_, ?_⟩
  · have h1 := IntOp.andi_eq_one.mp (Host.reduce_andi_all _ _ _ _ _ h0.1 (ix1 i))
    exact toNat_of_range _ h1.1 h1.2
  · refine toNat_of_pos _ (Eq.trans ?_ h0.2)
    refine congrArg (fun w => IntOp.cmpi .sge w 1#32) ?_
    unfold shapeCast
    exact congrArg nu (one_idx _ _)

end

/-! ## The blocks -/

section
open Cert.Kernel2Ideal Cert.Kernel2Ideal.Gen
variable {F : FTy → Type} [FloatOps F] (pf : pre0.Contents (Elt F))

/-- A row block's expert. -/
def expertOf (k : Fin 544) : ℕ := BitVec.toNat ((pf 0 : S544.Idx → BitVec 32) (ix1 k))

/-- The number of row blocks in use. -/
def usedOf : ℕ := BitVec.toNat ((pf 1 : S1.Idx → BitVec 32) (ix1 0))

/-- The row block of a grid point. -/
def pointOf (i : grid0.Coords) : Fin 544 := ⟨(i 0).val, (i 0).isLt⟩

variable (h : InRange (fun i => (pf 0 : S544.Idx → BitVec 32) (ix1 i)) ((pf 1 : S1.Idx → BitVec 32) (ix1 0)))

include h in
/-- The row block of the rows' window at a grid point. -/
theorem rows_index (i : grid0.Coords) :
    cc0_transform_0 inb_S1_S1_0 numel1_S1 pf i = ![min (i 0).val (usedOf pf - 1), 0] := by
  funext a
  fin_cases a
  · refine Eq.trans ?_ (min_word _ ((pointOf i).isLt) _ h.2.1 h.2.2)
    exact congrArg (fun w : BitVec 32 => (Scalar.minsi (BitVec.ofNat 32 (i 0).val) (Scalar.subi w 1#32)).toNat)
      (congrArg (pf 1 : S1.Idx → BitVec 32) (one_idx _ _))
  · rfl

/-- The block of the experts' windows at a grid point: its row block's expert. -/
theorem expert_index (i : grid0.Coords) :
    cc0_transform_1 k0_off1_inb numel1_S1 pf i = ![expertOf pf (pointOf i), 0, 0] := by
  funext a
  fin_cases a
  · refine congrArg (fun x : S544.Idx => BitVec.toNat ((pf 0 : S544.Idx → BitVec 32) x)) (funext fun a => ?_)
    fin_cases a
    refine Fin.ext ?_
    show (BitVec.ofNat 32 (i 0).val).toNat + 1 * _ = (i 0).val
    have := (pointOf i).isLt
    unfold pointOf at this
    rw [BitVec.toNat_ofNat]
    simp
    omega
  · rfl
  · rfl

include h in
/-- The tables' words in range, every window's blocks lie inside its array. -/
theorem ok_tables : ok0 pf := by
  refine ⟨fun i => ⟨?_, .inr (Affine.block_words_dvd (of_decide_eq_true rfl) (by decide))⟩,
    fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [rows_index pf h]
    have : (i 0).val < 544 := (i 0).isLt
    intro a
    fin_cases a
    · show (min (i 0).val _ + 1) * 8192 ≤ 4456448
      omega
    · show (0 + 1) * 128 ≤ 128
      omega
  all_goals
    intro a
    have h0 : expertOf pf (pointOf i) < 32 := h.1 (pointOf i)
    have h3 := congrFun (expert_index pf i) a
  · rw [h3]
    fin_cases a
    · show (expertOf pf (pointOf i) + 1) * 1 ≤ 32
      omega
    · show (0 + 1) * 2048 ≤ 2048
      omega
    · show (0 + 1) * 4096 ≤ 4096
      omega
  · refine le_of_eq_of_le (congrArg (fun n => (n + 1) * S1x1x4096.size a) h3) ?_
    fin_cases a
    · show (expertOf pf (pointOf i) + 1) * 1 ≤ 32
      omega
    · show (0 + 1) * 1 ≤ 1
      omega
    · show (0 + 1) * 4096 ≤ 4096
      omega
  · refine le_of_eq_of_le (congrArg (fun n => (n + 1) * S1x2048x2048.size a) h3) ?_
    fin_cases a
    · show (expertOf pf (pointOf i) + 1) * 1 ≤ 32
      omega
    · show (0 + 1) * 2048 ≤ 2048
      omega
    · show (0 + 1) * 2048 ≤ 2048
      omega
  · refine le_of_eq_of_le (congrArg (fun n => (n + 1) * S1x1x2048.size a) h3) ?_
    fin_cases a
    · show (expertOf pf (pointOf i) + 1) * 1 ≤ 32
      omega
    · show (0 + 1) * 1 ≤ 1
      omega
    · show (0 + 1) * 2048 ≤ 2048
      omega

end

/-- So for the program as printed, whose tables and blocks are the same. -/
theorem ok_printed {F : FTy → Type} [FloatOps F] (pf : Cert.Kernel2.pre0.Contents (Elt F))
    (h : InRange (fun i => (pf 0 : Cert.Kernel2.S544.Idx → BitVec 32) (ix1 i)) ((pf 1 : Cert.Kernel2.S1.Idx → BitVec 32) (ix1 0))) :
    Cert.Kernel2.ok0 pf := ok_tables (F := F) pf h

instance instPreFacts : Cert.Pre_blocks_in_range.Facts := preFacts

/-- The precondition gives what the launch over the extended reals asks of its tables. -/
theorem ok_of_pre (m : (ℓ : Loc Cert.Kernel2Ideal.nD Cert.Kernel2Ideal.τ Cert.Kernel2Ideal.sig) → Buf (Elt Ideal) ℓ)
    (h : Cert.Pre_Kernel2Ideal m) : Cert.Kernel2Ideal.Gen.Ok m := by
  refine ok_tables _ ?_
  unfold Cert.Kernel2Ideal.Gen.tbl
  have h0 := range_of_pre _ _ _ _ _ _ _ (h 0)
  rw [← Cert.Kernel2Ideal.Gen.V_main_arg0 m 0, ← Cert.Kernel2Ideal.Gen.V_main_arg1 m 0] at h0
  exact h0

/-- The precondition gives what the launch of the printed program asks of its tables. -/
theorem ok_printed_of_pre (m : (ℓ : Loc Cert.Kernel2.nD Cert.Kernel2.τ Cert.Kernel2.sig) → Buf (Elt Bits) ℓ)
    (h : Cert.Pre_Kernel2 m) : Cert.Kernel2.Gen.Ok m := by
  refine ok_printed _ ?_
  unfold Cert.Kernel2.Gen.tbl
  have h0 := range_of_pre _ _ _ _ _ _ _ (h 0)
  rw [← Cert.Kernel2.Gen.V_main_arg0 m 0, ← Cert.Kernel2.Gen.V_main_arg1 m 0] at h0
  exact h0

end Cert.Proof.Experts

end

end
-- ==== Proof.ExpertsPays.lean ====
/- The values the expert kernel computes from what it loads, at an index. -/
module

public import proofs.«01_k».proof.Proof.ExpertsSpec
public import proofs.«01_k».proof.Proof.ExpertsTables

@[expose] public section

noncomputable section

namespace Cert.Proof.Experts

open Cert.Kernel2Ideal Cert.Kernel2Ideal.Gen Idealize.ShloMosaic Idealize.ShloMosaic.TcCoe Idealize.SL.Sem

/-- A product of the rows with a chunk of weights. -/
theorem pay28_at (x : Vec Ideal S512x2048 .bf16) (w : Vec Ideal S1x2048x512 .bf16) (r f : Fin 512) :
    k0_pay28 (F := Ideal) x w (ix2 r f) = ∑ k : Fin 2048, x (ix2 r k) * w (ix3 0 k f) := by
  unfold k0_pay28
  pointwise

/-- The same with its bias added. -/
theorem pay31_at (x : Vec Ideal S512x2048 .bf16) (w : Vec Ideal S1x2048x512 .bf16) (b : Vec Ideal S1x1x512 .f32) (r f : Fin 512) :
    k0_pay31 (F := Ideal) x w b (ix2 r f) = ∑ k : Fin 2048, x (ix2 r k) * w (ix3 0 k f) + b (ix3 0 0 f) := by
  unfold k0_pay31
  pointwise

/-- One chunk added to the running sum. -/
theorem pay35_at (a : Vec Ideal S512x2048 .f32) (g u : Vec Ideal S512x512 .f32) (b : Vec Ideal S1x1x512 .f32)
    (v : Vec Ideal S1x512x2048 .bf16) (r : Fin 512) (d : Fin 2048) :
    k0_pay35 (F := Ideal) a g u b v (ix2 r d)
      = a (ix2 r d) + ∑ f : Fin 512, act (g (ix2 r f)) (u (ix2 r f) + b (ix3 0 0 f)) * v (ix3 0 f d) := by
  unfold k0_pay35 act
  pointwise

/-- The first chunk added to the bias. -/
theorem pay30_at (x : Vec Ideal S512x2048 .bf16) (e : Vec Ideal S1x1x2048 .f32) (g : Vec Ideal S512x512 .f32)
    (bg : Vec Ideal S1x1x512 .f32) (w : Vec Ideal S1x2048x512 .bf16) (b : Vec Ideal S1x1x512 .f32) (v : Vec Ideal S1x512x2048 .bf16)
    (r : Fin 512) (d : Fin 2048) :
    k0_pay30 (F := Ideal) x (k0_pay27 e) g (k0_pay29 bg) w b v (ix2 r d)
      = e (ix3 0 0 d) + ∑ f : Fin 512, act (g (ix2 r f) + bg (ix3 0 0 f))
          (∑ k : Fin 2048, x (ix2 r k) * w (ix3 0 k f) + b (ix3 0 0 f)) * v (ix3 0 f d) := by
  unfold k0_pay30 k0_pay27 k0_pay29 act
  pointwise

/-- The next chunk added. -/
theorem pay32_at (x : Vec Ideal S512x2048 .bf16) (a : Vec Ideal S512x2048 .f32) (g : Vec Ideal S512x512 .f32)
    (w : Vec Ideal S1x2048x512 .bf16) (b : Vec Ideal S1x1x512 .f32) (v : Vec Ideal S1x512x2048 .bf16)
    (r : Fin 512) (d : Fin 2048) :
    k0_pay32 (F := Ideal) x a g w b v (ix2 r d)
      = a (ix2 r d) + ∑ f : Fin 512, act (g (ix2 r f))
          (∑ k : Fin 2048, x (ix2 r k) * w (ix3 0 k f) + b (ix3 0 0 f)) * v (ix3 0 f d) := by
  unfold k0_pay32 act
  pointwise

/-- The result lines of a block of rows. -/
def lines (a : Vec Ideal S512x2048 .f32) : FVec Ideal S8192x128 .bf16 :=
  shapeCast S8192x128 (concatenate S4096x2x128 1
    [⟨S4096x1x128, shapeCast S4096x1x128 (truncf .bf16 (extractStridedSlice S512x1024 ![0, 1024] a slices_S512x2048_o0_1024_S512x1024) bitsLt_bf16_f32) shapeCasts_S512x1024_S4096x1x128⟩,
     ⟨S4096x1x128, shapeCast S4096x1x128 (truncf .bf16 (extractStridedSlice S512x1024 ![0, 0] a slices_S512x2048_o0_0_S512x1024) bitsLt_bf16_f32) shapeCasts_S512x1024_S4096x1x128⟩]
    concatenates_S4096x1x128_S4096x1x128_S4096x2x128_d1) shapeCasts_S4096x2x128_S8192x128

/-- The row of line `n` of a block. -/
def lineRow (n : Fin 8192) : Fin 512 := ⟨n.val / 16, by omega⟩

/-- A line of the block stored. -/
theorem lines_at (a : Vec Ideal S512x2048 .f32) (n : Fin 8192) (l : Fin 128) :
    lines a (ix2 n l) = a (ix2 (lineRow n) (lineCol n.val l)) := by
  have hl := l.isLt
  unfold lines
  rw [shapeCast_apply _ _ _ (ix3 (⟨n.val / 2, by omega⟩ : Fin 4096) (⟨n.val % 2, by omega⟩ : Fin 2) l) (by
    rewrite [Shape.rowMajor_val_two, Shape.rowMajor_val_three]
    show (n.val / 2 * 2 + n.val % 2) * 128 + l.val = n.val * 128 + l.val
    omega)]
  rcases Nat.mod_two_eq_zero_or_one n.val with h | h
  · refine Eq.trans (concatenate_pair_apply_left (s₁ := S4096x1x128) (s₂ := S4096x1x128) (t := S4096x2x128) _ _ _ _ _ rfl
      (ix3 (⟨n.val / 2, by omega⟩ : Fin 4096) (0 : Fin 1) l) (by
      intro b
      fin_cases b
      · rfl
      · exact h.symm
      · rfl)) ?_
    rw [shapeCast_apply _ _ _ (ix2 (lineRow n) (⟨n.val % 16 / 2 * 128 + l.val, by omega⟩ : Fin 1024)) (by
      rewrite [Shape.rowMajor_val_two, Shape.rowMajor_val_three]
      show n.val / 16 * 1024 + (n.val % 16 / 2 * 128 + l.val) = (n.val / 2 * 1 + 0) * 128 + l.val
      omega)]
    refine (truncf_apply ..).trans ?_
    refine extractStridedSlice_apply _ _ _ _ _ fun b => ?_
    fin_cases b
    · show n.val / 16 = 0 + n.val / 16; omega
    · show (1 - n.val % 2) * 1024 + n.val % 16 / 2 * 128 + l.val = 1024 + (n.val % 16 / 2 * 128 + l.val); omega
  · refine Eq.trans (concatenate_pair_apply_right (s₁ := S4096x1x128) (s₂ := S4096x1x128) (t := S4096x2x128) _ _ _ _ _ rfl rfl
      (ix3 (⟨n.val / 2, by omega⟩ : Fin 4096) (0 : Fin 1) l) (by
      intro b hb
      fin_cases b
      · rfl
      · exact absurd rfl hb
      · rfl) (by show 0 + 1 = n.val % 2; omega)) ?_
    rw [shapeCast_apply _ _ _ (ix2 (lineRow n) (⟨n.val % 16 / 2 * 128 + l.val, by omega⟩ : Fin 1024)) (by
      rewrite [Shape.rowMajor_val_two, Shape.rowMajor_val_three]
      show n.val / 16 * 1024 + (n.val % 16 / 2 * 128 + l.val) = (n.val / 2 * 1 + 0) * 128 + l.val
      omega)]
    refine (truncf_apply ..).trans ?_
    refine extractStridedSlice_apply _ _ _ _ _ fun b => ?_
    fin_cases b
    · show n.val / 16 = 0 + n.val / 16; omega
    · show (1 - n.val % 2) * 1024 + n.val % 16 / 2 * 128 + l.val = 0 + (n.val % 16 / 2 * 128 + l.val); omega

/-- The last chunk, added and laid out, is `k0_pay35`'s sum laid out. -/
theorem pay2_eq (a : Vec Ideal S512x2048 .f32) (g u : Vec Ideal S512x512 .f32) (b : Vec Ideal S1x1x512 .f32)
    (v : Vec Ideal S1x512x2048 .bf16) :
    k0_pay2 (F := Ideal) a g u (k0_pay38 b) v = lines (k0_pay35 (F := Ideal) a g u b v) := rfl

/-- Chunk `s` of 128 columns of a block's rows: the first (`p = 0`) or the second line of each row's pair `s`. -/
theorem rowChunk_slices (s : Fin 8) (p : Fin 2) : S512x8x2x128.Slices ![0, s.val, p.val, 0] S512x1x1x128 := by
  revert s p; decide +kernel

/-- A chunk of the rows: one sublane, one half of each pair. -/
def rowChunk (x : Vec Ideal S8192x128 .bf16) (s : Fin 8) (p : Fin 2) : FVec Ideal S512x128 .bf16 :=
  shapeCast S512x128 (shapeCast S512x128 (extractStridedSlice S512x1x1x128 ![0, s.val, p.val, 0]
    (shapeCast S512x8x2x128 x shapeCasts_S8192x128_S512x8x2x128) (rowChunk_slices s p)) shapeCasts_S512x1x1x128_S512x128)
    shapeCasts_S512x128_S512x128

/-- A value of a chunk. -/
theorem rowChunk_at (x : Vec Ideal S8192x128 .bf16) (s : Fin 8) (p : Fin 2) (r : Fin 512) (l : Fin 128) :
    rowChunk x s p (ix2 r l) = x (ix2 (⟨(r.val * 8 + s.val) * 2 + p.val, by omega⟩ : Fin 8192) l) := by
  unfold rowChunk
  rw [shapeCast_apply _ _ _ (ix2 r l) rfl, shapeCast_apply _ _ _ (ix4 r (0 : Fin 1) (0 : Fin 1) l) (by
    rewrite [Shape.rowMajor_val_two, Shape.rowMajor_val_four]
    show ((r.val * 1 + 0) * 1 + 0) * 128 + l.val = r.val * 128 + l.val
    omega)]
  rw [extractStridedSlice_apply _ _ _ _ (ix4 r s p l) (by
    intro b
    fin_cases b
    · show r.val = 0 + r.val; omega
    · rfl
    · rfl
    · show l.val = 0 + l.val; omega)]
  exact shapeCast_apply _ _ _ _ (by
    rewrite [Shape.rowMajor_val_two, Shape.rowMajor_val_four]
    rfl)

end Cert.Proof.Experts

end

end
-- ==== Proof.ExpertsBlock.lean ====
/- What one grid point of the expert kernel leaves in its block of result lines. -/
module

public import proofs.«01_k».proof.Proof.ExpertsPays
public import Idealize.ShloMosaic.Lib.WholeRead

@[expose] public section

noncomputable section

namespace Cert.Proof.Experts

open Cert.Kernel2Ideal Cert.Kernel2Ideal.Gen Idealize.ShloMosaic Idealize.ShloMosaic.TcCoe Idealize.SL.Sem

variable (c : Dev nD) (i : grid0.Coords)
  (arg3 : Memref sig .tc .vmem S8192x128 .bf16) (harg3 : arg3.IsWhole)
  (arg4 : Memref sig .tc .vmem S1x2048x4096 .bf16) (harg4 : arg4.IsWhole)
  (arg5 : Memref sig .tc .vmem S1x1x4096 .f32) (harg5 : arg5.IsWhole)
  (arg6 : Memref sig .tc .vmem S1x2048x2048 .bf16) (harg6 : arg6.IsWhole)
  (arg7 : Memref sig .tc .vmem S1x1x2048 .f32) (harg7 : arg7.IsWhole)
  (arg8 : Memref sig .tc .vmem S8192x128 .bf16) (harg8 : arg8.IsWhole)
  (arg9 : Memref sig .tc .vmem S512x2048 .bf16) (harg9 : arg9.IsWhole)
  (x0 : Vec Ideal S8192x128 .bf16) (x1 : Vec Ideal S1x2048x4096 .bf16) (x2 : Vec Ideal S1x1x4096 .f32)
  (x3 : Vec Ideal S1x2048x2048 .bf16) (x4 : Vec Ideal S1x1x2048 .f32)

/-! ## The row scratch -/

/-- Each of the sixteen column chunks lies inside the scratch array. -/
theorem rowChunk_inb (n : Fin 16) : ∀ a, (![0, 1024 * (1 - n.val % 2) + 128 * (7 - n.val / 2)] : Fin 2 → ℕ) a + S512x128.size a ≤ S512x2048.size a := by
  intro a; have := n.isLt
  fin_cases a
  · show 0 + 512 ≤ 512; omega
  · show 1024 * (1 - n.val % 2) + 128 * (7 - n.val / 2) + 128 ≤ 2048; omega

/-- The scratch's sixteen stores, one per chunk of 128 columns. -/
theorem rows_list : kernelRun0_A.sl.HS0_16 (F := Ideal) c arg3 harg3 x0
    = List.ofFn fun n : Fin 16 => (⟨Rect.unit (s := S512x2048) ![0, 1024 * (1 - n.val % 2) + 128 * (7 - n.val / 2)] S512x128.size (rowChunk_inb n),
        rowChunk (View.readAt (Elt Ideal) arg3.view (Rect.unit (s := S8192x128) ![0, 0] S8192x128.size inb_S8192x128_S8192x128_0_0).toLoadRect (harg3.unread x0))
          ⟨7 - n.val / 2, by omega⟩ ⟨n.val % 2, by omega⟩⟩ : View.Piece (Elt Ideal) S512x2048 .bf16) := rfl

/-- A row's line lies inside the block. -/
theorem lineNum_lt (r : Fin 512) (d : Fin 2048) : lineNum r.val d.val < 8192 := by unfold lineNum; omega

/-- Row `r` of a block of lines. -/
def blockRow (r : Fin 512) (d : Fin 2048) : EReal := x0 (ix2 (⟨lineNum r.val d.val, lineNum_lt r d⟩ : Fin 8192) (lane d))

/-- The scratch array holds the block's rows. -/
theorem row_at (r : Fin 512) (d : Fin 2048) : kernelRun0_A.sl.v102 (F := Ideal) c arg3 harg3 arg9 x0 (ix2 r d) = blockRow x0 r d := by
  unfold kernelRun0_A.sl.v102
  rw [View.readCov_eq_canon']
  refine Eq.trans (b := View.canon (kernelRun0_A.sl.HS0_16 (F := Ideal) c arg3 harg3 x0) (ix2 r d)) (congrArg (View.canon _) ?_) ?_
  · funext a
    fin_cases a
    · exact Fin.ext (by show 0 + 1 * r.val = r.val; omega)
    · exact Fin.ext (by show 0 + 1 * d.val = d.val; omega)
  rw [rows_list]
  refine View.canon_ofFn_unit_eq_of_forall _ _ _ _ _ _ ⟨⟨2 * (7 - d.val % 1024 / 128) + (1 - d.val / 1024), by omega⟩, ?_⟩ ?_
  · intro a
    fin_cases a
    · exact ⟨Nat.zero_le _, by show r.val < 0 + 512; omega⟩
    · show 1024 * (1 - (2 * (7 - d.val % 1024 / 128) + (1 - d.val / 1024)) % 2) + 128 * (7 - (2 * (7 - d.val % 1024 / 128) + (1 - d.val / 1024)) / 2) ≤ d.val
        ∧ d.val < 1024 * (1 - (2 * (7 - d.val % 1024 / 128) + (1 - d.val / 1024)) % 2) + 128 * (7 - (2 * (7 - d.val % 1024 / 128) + (1 - d.val / 1024)) / 2) + 128
      omega
  · intro k
    tile_intro x e
    have e0 : r.val = (x 0).val := e0
    have e1 : d.val = 1024 * (1 - k.val % 2) + 128 * (7 - k.val / 2) + (x 1).val := e1
    have hx1 : (x 1).val < 128 := (x 1).isLt
    have hx : x = ix2 r (lane d) := by
      funext a
      fin_cases a
      · exact Fin.ext (by show (x 0).val = r.val; omega)
      · exact Fin.ext (by show (x 1).val = d.val % 128; omega)
    rw [hx]
    refine (rowChunk_at _ _ _ r (lane d)).trans ?_
    rw [harg3.readAt_unread]
    refine congrArg x0 ?_
    funext a
    fin_cases a
    · exact Fin.ext (by
        show 0 + 1 * ((r.val * 8 + (7 - k.val / 2)) * 2 + k.val % 2) = (r.val * 8 + d.val % 1024 / 128) * 2 + (1 - d.val / 1024)
        omega)
    · exact Fin.ext (by show 0 + 1 * (d.val % 128) = d.val % 128; omega)

/-! ## The weights and biases, read in chunks -/

/-- A chunk of the gate and linear weights. -/
theorem weight_read (o : ℕ) (h : ∀ a, (![0, 0, o] : Fin 3 → ℕ) a + S1x2048x512.size a ≤ S1x2048x4096.size a) (k : Fin 2048)
    (f : Fin 512) (j : Fin 4096) (hj : j.val = o + f.val) :
    View.readAt (Elt Ideal) arg4.view (Rect.unit (s := S1x2048x4096) ![0, 0, o] S1x2048x512.size h).toLoadRect (harg4.unread x1) (ix3 0 k f)
      = x1 (ix3 0 k j) := by
  rw [harg4.readAt_unread]
  refine congrArg x1 ?_
  funext a
  fin_cases a
  · rfl
  · exact Fin.ext (by show 0 + 1 * k.val = k.val; omega)
  · exact Fin.ext (by show o + 1 * f.val = j.val; omega)

/-- A chunk of their bias. -/
theorem bias_read (o : ℕ) (h : ∀ a, (![0, 0, o] : Fin 3 → ℕ) a + S1x1x512.size a ≤ S1x1x4096.size a)
    (f : Fin 512) (j : Fin 4096) (hj : j.val = o + f.val) :
    View.readAt (Elt Ideal) arg5.view (Rect.unit (s := S1x1x4096) ![0, 0, o] S1x1x512.size h).toLoadRect (harg5.unread x2) (ix3 0 0 f)
      = x2 (ix3 0 0 j) := by
  rw [harg5.readAt_unread]
  refine congrArg x2 ?_
  funext a
  fin_cases a
  · rfl
  · rfl
  · exact Fin.ext (by show o + 1 * f.val = j.val; omega)

/-- A chunk of the down projection's weights. -/
theorem down_read (o : ℕ) (h : ∀ a, (![0, o, 0] : Fin 3 → ℕ) a + S1x512x2048.size a ≤ S1x2048x2048.size a)
    (f : Fin 512) (d : Fin 2048) (j : Fin 2048) (hj : j.val = o + f.val) :
    View.readAt (Elt Ideal) arg6.view (Rect.unit (s := S1x2048x2048) ![0, o, 0] S1x512x2048.size h).toLoadRect (harg6.unread x3) (ix3 0 f d)
      = x3 (ix3 0 j d) := by
  rw [harg6.readAt_unread]
  refine congrArg x3 ?_
  funext a
  fin_cases a
  · rfl
  · exact Fin.ext (by show o + 1 * f.val = j.val; omega)
  · exact Fin.ext (by show 0 + 1 * d.val = d.val; omega)

/-- The down projection's bias. -/
theorem out_bias_read (d : Fin 2048) :
    View.readAt (Elt Ideal) arg7.view (Rect.unit (s := S1x1x2048) ![0, 0, 0] S1x1x2048.size inb_S1x1x2048_S1x1x2048_0_0_0).toLoadRect (harg7.unread x4) (ix3 0 0 d)
      = x4 (ix3 0 0 d) := by
  rw [harg7.readAt_unread]
  refine congrArg x4 ?_
  funext a
  fin_cases a
  · rfl
  · rfl
  · exact Fin.ext (by show 0 + 1 * d.val = d.val; omega)

/-! ## The block -/

/-- A block's row `r`, taken through its expert, at column `d`. -/
def blockOut (r : Fin 512) (d : Fin 2048) : EReal :=
  expertRow (blockRow x0 r) (fun k f => x1 (ix3 0 k f)) (fun f => x2 (ix3 0 0 f)) (fun f d => x3 (ix3 0 f d)) (fun d => x4 (ix3 0 0 d)) d

/-- One chunk of a row's sum over the hidden values. -/
def chunkSum (r : Fin 512) (d : Fin 2048) (j : Fin 4) : EReal :=
  ∑ y : Fin 512, hidden (blockRow x0 r) (fun k f => x1 (ix3 0 k f)) (fun f => x2 (ix3 0 0 f)) (chunk j y) * x3 (ix3 0 (chunk j y) d)

/-- A row's result as the sum of its chunks. -/
theorem blockOut_eq (r : Fin 512) (d : Fin 2048) : blockOut x0 x1 x2 x3 x4 r d
    = x4 (ix3 0 0 d) + chunkSum x0 x1 x2 x3 r d 0 + chunkSum x0 x1 x2 x3 r d 1 + chunkSum x0 x1 x2 x3 r d 2 + chunkSum x0 x1 x2 x3 r d 3 := by
  unfold blockOut expertRow chunkSum
  rw [sum_chunks]
  abel

/-- A gate value, before its chunk's unit: columns `o …` of the first product and of its bias. -/
theorem product_at (o : ℕ) (h : ∀ a, (![0, 0, o] : Fin 3 → ℕ) a + S1x2048x512.size a ≤ S1x2048x4096.size a) (r f : Fin 512)
    (j : Fin 4096) (hj : j.val = o + f.val) :
    ∑ k : Fin 2048, kernelRun0_A.sl.v102 (F := Ideal) c arg3 harg3 arg9 x0 (ix2 r k)
        * View.readAt (Elt Ideal) arg4.view (Rect.unit (s := S1x2048x4096) ![0, 0, o] S1x2048x512.size h).toLoadRect (harg4.unread x1) (ix3 0 k f)
      = ∑ k : Fin 2048, blockRow x0 r k * x1 (ix3 0 k j) :=
  Finset.sum_congr rfl fun k _ => congrArg₂ (· * ·) (row_at c arg3 harg3 arg9 x0 r k) (weight_read arg4 harg4 x1 o h k f j hj)

/-- The first chunk of hidden columns. -/
theorem first_chunk (r : Fin 512) (d : Fin 2048) :
    kernelRun0_A.sl.r_4 (F := Ideal) c arg3 harg3 arg4 harg4 arg5 harg5 arg6 harg6 arg7 harg7 arg9 x0 x1 x2 x3 x4 (ix2 r d)
      = x4 (ix3 0 0 d) + chunkSum x0 x1 x2 x3 r d 0 := by
  unfold kernelRun0_A.sl.r_4 kernelRun0_A.sl.r_1 kernelRun0_A.sl.r_2 kernelRun0_A.sl.r_3
  refine (pay30_at _ _ _ _ _ _ _ r d).trans (congrArg₂ (· + ·) (out_bias_read arg7 harg7 x4 d) (Finset.sum_congr rfl fun f _ => ?_))
  refine congrArg₂ (· * ·) ?_ (down_read arg6 harg6 x3 0 _ f d (chunk 0 f) (by show 512 * 0 + f.val = 0 + f.val; omega))
  unfold hidden
  refine congrArg₂ act (congrArg₂ (· + ·) ((pay28_at _ _ r f).trans ?_) (bias_read arg5 harg5 x2 0 _ f (gateCol (chunk 0 f)) ?_))
    (congrArg₂ (· + ·) ?_ (bias_read arg5 harg5 x2 2048 _ f (linCol (chunk 0 f)) ?_))
  · exact product_at c arg3 harg3 arg4 harg4 arg9 x0 x1 0 _ r f (gateCol (chunk 0 f)) (by show 512 * 0 + f.val = 0 + f.val; omega)
  · show 512 * 0 + f.val = 0 + f.val; omega
  · exact product_at c arg3 harg3 arg4 harg4 arg9 x0 x1 2048 _ r f (linCol (chunk 0 f)) (by show 2048 + (512 * 0 + f.val) = 2048 + f.val; omega)
  · show 2048 + (512 * 0 + f.val) = 2048 + f.val; omega

/-- The second chunk of hidden columns. -/
theorem second_chunk (r : Fin 512) (d : Fin 2048) :
    kernelRun0_A.sl.r_6 (F := Ideal) c arg3 harg3 arg4 harg4 arg5 harg5 arg6 harg6 arg7 harg7 arg9 x0 x1 x2 x3 x4 (ix2 r d)
      = x4 (ix3 0 0 d) + chunkSum x0 x1 x2 x3 r d 0 + chunkSum x0 x1 x2 x3 r d 1 := by
  unfold kernelRun0_A.sl.r_6 kernelRun0_A.sl.r_5
  refine (pay32_at _ _ _ _ _ _ r d).trans (congrArg₂ (· + ·)
    (first_chunk c arg3 harg3 arg4 harg4 arg5 harg5 arg6 harg6 arg7 harg7 arg9 x0 x1 x2 x3 x4 r d) (Finset.sum_congr rfl fun f _ => ?_))
  refine congrArg₂ (· * ·) ?_ (down_read arg6 harg6 x3 512 _ f d (chunk 1 f) (by show 512 * 1 + f.val = 512 + f.val; omega))
  unfold hidden
  refine congrArg₂ act ((pay31_at _ _ _ r f).trans (congrArg₂ (· + ·) ?_ (bias_read arg5 harg5 x2 512 _ f (gateCol (chunk 1 f)) ?_)))
    (congrArg₂ (· + ·) ?_ (bias_read arg5 harg5 x2 2560 _ f (linCol (chunk 1 f)) ?_))
  · exact product_at c arg3 harg3 arg4 harg4 arg9 x0 x1 512 _ r f (gateCol (chunk 1 f)) (by show 512 * 1 + f.val = 512 + f.val; omega)
  · show 512 * 1 + f.val = 512 + f.val; omega
  · exact product_at c arg3 harg3 arg4 harg4 arg9 x0 x1 2560 _ r f (linCol (chunk 1 f)) (by show 2048 + (512 * 1 + f.val) = 2560 + f.val; omega)
  · show 2048 + (512 * 1 + f.val) = 2560 + f.val; omega

/-- The third chunk of hidden columns. -/
theorem third_chunk (r : Fin 512) (d : Fin 2048) :
    kernelRun0_A.sl.r_9 (F := Ideal) c arg3 harg3 arg4 harg4 arg5 harg5 arg6 harg6 arg7 harg7 arg9 x0 x1 x2 x3 x4 (ix2 r d)
      = x4 (ix3 0 0 d) + chunkSum x0 x1 x2 x3 r d 0 + chunkSum x0 x1 x2 x3 r d 1 + chunkSum x0 x1 x2 x3 r d 2 := by
  unfold kernelRun0_A.sl.r_9 kernelRun0_A.sl.r_7 kernelRun0_A.sl.r_8
  refine (pay35_at _ _ _ _ _ r d).trans (congrArg₂ (· + ·)
    (second_chunk c arg3 harg3 arg4 harg4 arg5 harg5 arg6 harg6 arg7 harg7 arg9 x0 x1 x2 x3 x4 r d) (Finset.sum_congr rfl fun f _ => ?_))
  refine congrArg₂ (· * ·) ?_ (down_read arg6 harg6 x3 1024 _ f d (chunk 2 f) (by show 512 * 2 + f.val = 1024 + f.val; omega))
  unfold hidden
  refine congrArg₂ act ((pay31_at _ _ _ r f).trans (congrArg₂ (· + ·) ?_ (bias_read arg5 harg5 x2 1024 _ f (gateCol (chunk 2 f)) ?_)))
    (congrArg₂ (· + ·) ((pay28_at _ _ r f).trans ?_) (bias_read arg5 harg5 x2 3072 _ f (linCol (chunk 2 f)) ?_))
  · exact product_at c arg3 harg3 arg4 harg4 arg9 x0 x1 1024 _ r f (gateCol (chunk 2 f)) (by show 512 * 2 + f.val = 1024 + f.val; omega)
  · show 512 * 2 + f.val = 1024 + f.val; omega
  · exact product_at c arg3 harg3 arg4 harg4 arg9 x0 x1 3072 _ r f (linCol (chunk 2 f)) (by show 2048 + (512 * 2 + f.val) = 3072 + f.val; omega)
  · show 2048 + (512 * 2 + f.val) = 3072 + f.val; omega

variable (xt0 : TbBuf0 (F := Ideal) c tbM0_0) (xt1 : TbBuf0 (F := Ideal) c tbM0_1)

/-- A block in use: each line holds 128 values of a row taken through the block's expert. -/
theorem block_used (hc0 : cond0_0 i (tbM0_1.view.readAt (Elt Ideal) (Rect.unit (s := S1) ![0] S1.size inb_S1_S1_0).toLoadRect xt1 (Shape.Idx.first (numel1_S1.symm ▸ Nat.one_pos))))
    (n : Fin 8192) (l : Fin 128) :
    out0_A_5 (F := Ideal) c i arg3 harg3 arg4 harg4 arg5 harg5 arg6 harg6 arg7 harg7 arg8 harg8 arg9 harg9 x0 x1 x2 x3 x4 xt0 xt1 hc0 (ix2 n l)
      = blockOut x0 x1 x2 x3 x4 (lineRow n) (lineCol n.val l) := by
  unfold out0_A_5
  rw [View.read_writes_eq_canon _ _ _ (cover0_A_5 c i arg3 harg3 arg4 harg4 arg5 harg5 arg6 harg6 arg7 harg7 arg8 harg8 arg9 harg9
    x0 x1 x2 x3 x4 xt0 xt1 hc0)]
  unfold kernelRun0_A
  dsimp only
  rw [View.canon_cons_unit_zero (S := S8192x128) (by funext a; fin_cases a <;> rfl)]
  unfold kernelRun0_A.sl.r_12
  rw [pay2_eq]
  refine (lines_at _ n l).trans ?_
  generalize lineRow n = r
  generalize lineCol n.val l = d
  rw [blockOut_eq]
  unfold kernelRun0_A.sl.r_10 kernelRun0_A.sl.r_11
  refine (pay35_at _ _ _ _ _ r d).trans (congrArg₂ (· + ·)
    (third_chunk c arg3 harg3 arg4 harg4 arg5 harg5 arg6 harg6 arg7 harg7 arg9 x0 x1 x2 x3 x4 r d) (Finset.sum_congr rfl fun f _ => ?_))
  refine congrArg₂ (· * ·) ?_ (down_read arg6 harg6 x3 1536 _ f d (chunk 3 f) (by show 512 * 3 + f.val = 1536 + f.val; omega))
  unfold hidden
  refine congrArg₂ act ((pay31_at _ _ _ r f).trans (congrArg₂ (· + ·) ?_ (bias_read arg5 harg5 x2 1536 _ f (gateCol (chunk 3 f)) ?_)))
    (congrArg₂ (· + ·) ((pay28_at _ _ r f).trans ?_) (bias_read arg5 harg5 x2 3584 _ f (linCol (chunk 3 f)) ?_))
  · exact product_at c arg3 harg3 arg4 harg4 arg9 x0 x1 1536 _ r f (gateCol (chunk 3 f)) (by show 512 * 3 + f.val = 1536 + f.val; omega)
  · show 512 * 3 + f.val = 1536 + f.val; omega
  · exact product_at c arg3 harg3 arg4 harg4 arg9 x0 x1 3584 _ r f (linCol (chunk 3 f)) (by show 2048 + (512 * 3 + f.val) = 3584 + f.val; omega)
  · show 2048 + (512 * 3 + f.val) = 3584 + f.val; omega

/-- A block not in use holds zeros. -/
theorem block_unused (hc0 : ¬cond0_0 i (tbM0_1.view.readAt (Elt Ideal) (Rect.unit (s := S1) ![0] S1.size inb_S1_S1_0).toLoadRect xt1 (Shape.Idx.first (numel1_S1.symm ▸ Nat.one_pos))))
    (n : Fin 8192) (l : Fin 128) :
    out0_B_5 (F := Ideal) c i arg3 harg3 arg4 harg4 arg5 harg5 arg6 harg6 arg7 harg7 arg8 harg8 arg9 harg9 x0 x1 x2 x3 x4 xt0 xt1 hc0 (ix2 n l)
      = 0 := by
  unfold out0_B_5
  rw [View.read_writes_eq_canon _ _ _ (cover0_B_5 c i arg3 harg3 arg4 harg4 arg5 harg5 arg6 harg6 arg7 harg7 arg8 harg8 arg9 harg9
    x0 x1 x2 x3 x4 xt0 xt1 hc0)]
  unfold kernelRun0_B
  dsimp only
  rw [View.canon_unit_zero (by funext a; fin_cases a <;> rfl)]
  unfold k0_pay1
  pointwise

end Cert.Proof.Experts

end

end
-- ==== Proof.ExpertsArray.lean ====
/- The experts call's result array: every element from the arrays the program is given. -/
module

public import proofs.«01_k».proof.Proof.ExpertsBlock
public import proofs.«01_k».proof.Proof.ExpertsTables
public import Idealize.ShloMosaic.Lib.Pipeline.Covers

@[expose] public section

set_option maxRecDepth 16384

noncomputable section

namespace Cert.Proof.Experts

open Cert.Kernel2Ideal Cert.Kernel2Ideal.Gen Idealize.ShloMosaic Idealize.ShloMosaic.TcCoe Idealize.SL.Sem
open Idealize.ShloMosaic.Pipeline

/-! ## The result, from the arrays -/

/-- The expert of a row block. -/
def expertIx (be : S544.Idx → BitVec 32) (k : Fin 544) : Fin 32 := ⟨min (be (ix1 k)).toNat 31, by omega⟩

/-- The row block of a row. -/
def rowBlock (r : Fin 278528) : Fin 544 := ⟨r.val / 512, by omega⟩

/-- A row's line lies inside the array. -/
theorem lineNum_lt' (r : Fin 278528) (d : Fin 2048) : lineNum r.val d.val < 4456448 := by unfold lineNum; omega

/-- A row's values, from the lines that hold them. -/
def wholeRow (x : S4456448x128.Idx → EReal) (r : Fin 278528) (d : Fin 2048) : EReal :=
  x (ix2 ⟨lineNum r.val d.val, lineNum_lt' r d⟩ (lane d))

/-- One value of the experts' result: the row through its block's expert, or zero if the block is not in use. -/
def expertsAt (be : S544.Idx → BitVec 32) (nu : S1.Idx → BitVec 32) (x : S4456448x128.Idx → EReal)
    (w : S32x2048x4096.Idx → EReal) (b : S32x4096.Idx → EReal) (v : S32x2048x2048.Idx → EReal) (e : S32x2048.Idx → EReal)
    (r : Fin 278528) (d : Fin 2048) : EReal :=
  if (rowBlock r).val < (nu (ix1 0)).toNat then
    expertRow (wholeRow x r) (fun k f => w (ix3 (expertIx be (rowBlock r)) k f)) (fun f => b (ix2 (expertIx be (rowBlock r)) f))
      (fun f d => v (ix3 (expertIx be (rowBlock r)) f d)) (fun d => e (ix2 (expertIx be (rowBlock r)) d)) d
  else 0

/-- The row of a line. -/
def rowOf (n : Fin 4456448) : Fin 278528 := ⟨n.val / 16, by omega⟩

/-! ## The call's arrays -/

variable (m : (ℓ : Loc nD τ sig) → Buf (Elt Ideal) ℓ) (c : Dev nD)

/-- The first bias, as the call takes it. -/
theorem bias_arg (e : Fin 32) (f : Fin 4096) : (V m c main_v0 : S32x1x4096.Idx → EReal) (ix3 e 0 f)
    = (m ((c : Thread nD τ).loc main_arg4) : S32x4096.Idx → EReal) (ix2 e f) := by
  simp only [V, hostOps0]
  entry_read
  pointwise

/-- The second bias, as the call takes it. -/
theorem out_bias_arg (e : Fin 32) (d : Fin 2048) : (V m c main_v1 : S32x1x2048.Idx → EReal) (ix3 e 0 d)
    = (m ((c : Thread nD τ).loc main_arg6) : S32x2048.Idx → EReal) (ix2 e d) := by
  simp only [V, hostOps0]
  entry_read
  pointwise

/-- The grid point's coordinate is its number. -/
theorem coords_val : ∀ t : Fin grid0.N, (grid0.coords t 0).val = t.val := by decide +kernel

/-- The grid point's row block. -/
def blockOf (t : Fin grid0.N) : Fin 544 := ⟨t.val, lt_of_lt_of_eq t.isLt N_0⟩

/-- What the precondition says of the arrays that the program is given. -/
def Tables : Prop := InRange (fun i => (m ((0 : Dev nD).tc.loc main_arg0) : S544.Idx → BitVec 32) (ix1 i))
  ((m ((0 : Dev nD).tc.loc main_arg1) : S1.Idx → BitVec 32) (ix1 0))

/-- The table of experts is the first argument. -/
theorem tbl_0 : (tbl m 0 : S544.Idx → BitVec 32) = m ((0 : Dev nD).tc.loc main_arg0) := V_main_arg0 m 0
/-- The number of blocks in use is the second argument. -/
theorem tbl_1 : (tbl m 1 : S1.Idx → BitVec 32) = m ((0 : Dev nD).tc.loc main_arg1) := V_main_arg1 m 0

variable (hO : Ok m)

/-- The windows' block indices at a grid point. -/
theorem index_0 (h : Tables m) (t : Fin (cfgM m hO).N) : ((cfgM m hO).win 0).index t
    = ![min t.val ((m ((0 : Dev nD).tc.loc main_arg1) : S1.Idx → BitVec 32) (ix1 0)).toNat.pred, 0] := by
  refine (rows_index (tbl m) (by rw [tbl_0, tbl_1]; exact h) (grid0.coords t)).trans ?_
  rw [coords_val, usedOf, tbl_1]
  rfl

/-- The expert's block of weights. -/
theorem index_1 (h : Tables m) (t : Fin (cfgM m hO).N) : ((cfgM m hO).win 1).index t
    = ![(expertIx (m ((0 : Dev nD).tc.loc main_arg0)) (blockOf t)).val, 0, 0] := by
  refine (expert_index (tbl m) (grid0.coords t)).trans ?_
  have e : pointOf (grid0.coords t) = blockOf t := Fin.ext (coords_val t)
  rw [e, expertOf, tbl_0]
  congr 1
  exact (Nat.min_eq_left (Nat.le_of_lt_succ (h.1 (blockOf t)))).symm

/-- The block written. -/
theorem index_5 (t : Fin (cfgM m hO).N) : ((cfgM m hO).win 5).index t = ![t.val, 0] := by
  refine Eq.trans (b := cc0_transform_5 (grid0.coords t)) rfl ?_
  funext a
  fin_cases a
  · refine Eq.trans ?_ (coords_val t)
    show (BitVec.ofNat 32 (grid0.coords t 0).val).toNat = _
    have := (grid0.coords t 0).isLt
    rw [BitVec.toNat_ofNat]
    exact Nat.mod_eq_of_lt (lt_trans (show _ < 544 from this) (by norm_num))
  · rfl

/-- The windows of the biases and of the second product take the same expert. -/
theorem index_2 (h : Tables m) (t : Fin (cfgM m hO).N) : ((cfgM m hO).win 2).index t
    = ![(expertIx (m ((0 : Dev nD).tc.loc main_arg0)) (blockOf t)).val, 0, 0] := index_1 m hO h t
/-- The expert's down projection. -/
theorem index_3 (h : Tables m) (t : Fin (cfgM m hO).N) : ((cfgM m hO).win 3).index t
    = ![(expertIx (m ((0 : Dev nD).tc.loc main_arg0)) (blockOf t)).val, 0, 0] := index_1 m hO h t
/-- The down projection's bias. -/
theorem index_4 (h : Tables m) (t : Fin (cfgM m hO).N) : ((cfgM m hO).win 4).index t
    = ![(expertIx (m ((0 : Dev nD).tc.loc main_arg0)) (blockOf t)).val, 0, 0] := index_1 m hO h t

/-! ## The blocks' elements -/

/-- The row of a grid point's block. -/
def rowAt (t : Fin grid0.N) (r : Fin 512) : Fin 278528 :=
  ⟨512 * t.val + r.val, by have : t.val < 544 := lt_of_lt_of_eq t.isLt N_0; omega⟩

/-- A grid point in use reads its own rows. -/
theorem lines_read (h : Tables m) (t : Fin (cfgM m hO).N)
    (hu : t.val < ((m ((0 : Dev nD).tc.loc main_arg1) : S1.Idx → BitVec 32) (ix1 0)).toNat) (r : Fin 512) (d : Fin 2048) :
    blockRow (iblk m hO c 0 t) r d = wholeRow (m ((c : Thread nD τ).loc main_arg2)) (rowAt t r) d := by
  have e0 := index_0 m hO h t
  rw [Nat.min_eq_left (Nat.le_pred_of_lt hu)] at e0
  have e : lineNum (rowAt t r).val d.val = 8192 * t.val + lineNum r.val d.val := by
    show lineNum (512 * t.val + r.val) d.val = _
    unfold lineNum
    omega
  unfold blockRow wholeRow
  blk_ext [iblk, V, e0, e]

/-- A weight read. -/
theorem weight_at (h : Tables m) (t : Fin (cfgM m hO).N) (k : Fin 2048) (f : Fin 4096) :
    (iblk m hO c 1 t : S1x2048x4096.Idx → EReal) (ix3 0 k f) = (m ((c : Thread nD τ).loc main_arg3) : S32x2048x4096.Idx → EReal)
      (ix3 (expertIx (m ((0 : Dev nD).tc.loc main_arg0)) (blockOf t)) k f) := by
  have e := index_1 m hO h t
  blk_ext [iblk, V, e]

/-- A bias read. -/
theorem bias_at (h : Tables m) (t : Fin (cfgM m hO).N) (f : Fin 4096) :
    (iblk m hO c 2 t : S1x1x4096.Idx → EReal) (ix3 0 0 f) = (m ((c : Thread nD τ).loc main_arg4) : S32x4096.Idx → EReal)
      (ix2 (expertIx (m ((0 : Dev nD).tc.loc main_arg0)) (blockOf t)) f) := by
  have e := index_2 m hO h t
  refine Eq.trans ?_ (bias_arg m c _ f)
  blk_ext [iblk, e]

/-- A down projection's weight read. -/
theorem down_at (h : Tables m) (t : Fin (cfgM m hO).N) (f d : Fin 2048) :
    (iblk m hO c 3 t : S1x2048x2048.Idx → EReal) (ix3 0 f d) = (m ((c : Thread nD τ).loc main_arg5) : S32x2048x2048.Idx → EReal)
      (ix3 (expertIx (m ((0 : Dev nD).tc.loc main_arg0)) (blockOf t)) f d) := by
  have e := index_3 m hO h t
  blk_ext [iblk, V, e]

/-- A down projection's bias read. -/
theorem out_bias_at (h : Tables m) (t : Fin (cfgM m hO).N) (d : Fin 2048) :
    (iblk m hO c 4 t : S1x1x2048.Idx → EReal) (ix3 0 0 d) = (m ((c : Thread nD τ).loc main_arg6) : S32x2048.Idx → EReal)
      (ix2 (expertIx (m ((0 : Dev nD).tc.loc main_arg0)) (blockOf t)) d) := by
  have e := index_4 m hO h t
  refine Eq.trans ?_ (out_bias_arg m c _ d)
  blk_ext [iblk, e]

/-! ## The grid points and the array -/

/-- The word that a grid point compares its number with. -/
theorem used_word : tbM0_1.view.readAt (Elt Ideal) (Rect.unit (s := S1) ![0] S1.size inb_S1_S1_0).toLoadRect (tbl m 1)
    (Shape.Idx.first (numel1_S1.symm ▸ Nat.one_pos)) = (m ((0 : Dev nD).tc.loc main_arg1) : S1.Idx → BitVec 32) (ix1 0) := by
  exact (congrArg (tbl m 1 : S1.Idx → BitVec 32) (one_idx _ _)).trans (congrFun (tbl_1 m) (ix1 0))

/-- A grid point's number against the number of blocks in use, as words. -/
theorem used_word_iff (n : ℕ) (hn : n < 544) (w : BitVec 32) (h1 : w.toNat < 2 ^ 31) :
    (Scalar.cmpi .ne (Scalar.extui (Scalar.cmpi .slt (BitVec.ofNat 32 n) w)) 0#32) = 1#1 ↔ n < w.toNat := by
  have e0 : (BitVec.ofNat 32 n).toInt = n := by
    rw [BitVec.toInt_eq_toNat_cond, BitVec.toNat_ofNat, Nat.mod_eq_of_lt (by omega), if_pos (by omega)]
  have e1 : w.toInt = w.toNat := by rw [BitVec.toInt_eq_toNat_cond, if_pos (by omega)]
  have e2 : Scalar.cmpi .slt (BitVec.ofNat 32 n) w = BitVec.ofBool (decide (n < w.toNat)) := by
    show BitVec.ofBool (decide ((BitVec.ofNat 32 n).toInt < w.toInt)) = _
    rw [e0, e1]
    simp
  rw [e2]
  by_cases h : n < w.toNat <;> simp only [h, decide_true, decide_false, iff_true, iff_false] <;> decide

/-- A grid point computes exactly if its block is in use. -/
theorem in_use_iff (h : Tables m) (t : Fin grid0.N) :
    cond0_0 (grid0.coords t) (tbM0_1.view.readAt (Elt Ideal) (Rect.unit (s := S1) ![0] S1.size inb_S1_S1_0).toLoadRect (tbl m 1)
      (Shape.Idx.first (numel1_S1.symm ▸ Nat.one_pos)))
      ↔ t.val < ((m ((0 : Dev nD).tc.loc main_arg1) : S1.Idx → BitVec 32) (ix1 0)).toNat := by
  rw [used_word]
  unfold cond0_0
  rw [coords_val]
  exact used_word_iff _ (blockOf t).isLt _ h.2.2

/-- The experts' result over the arrays that the program is given. -/
def arrayAt (r : Fin 278528) (d : Fin 2048) : EReal :=
  expertsAt (m ((0 : Dev nD).tc.loc main_arg0)) (m ((0 : Dev nD).tc.loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r d

/-- The row block of a row of the grid point. -/
theorem rowBlock_rowAt (t : Fin grid0.N) (r : Fin 512) : rowBlock (rowAt t r) = blockOf t :=
  Fin.ext (by show (512 * t.val + r.val) / 512 = t.val; omega)

/-- Equal arguments give equal rows. -/
theorem expertRow_congr {x x' : Fin 2048 → EReal} {w w' : Fin 2048 → Fin 4096 → EReal} {b b' : Fin 4096 → EReal}
    {v v' : Fin 2048 → Fin 2048 → EReal} {e e' : Fin 2048 → EReal} (hx : ∀ k, x k = x' k) (hw : ∀ k f, w k f = w' k f)
    (hb : ∀ f, b f = b' f) (hv : ∀ f d, v f d = v' f d) (he : ∀ d, e d = e' d) (d : Fin 2048) :
    expertRow x w b v e d = expertRow x' w' b' v' e' d := by
  obtain rfl : x = x' := funext hx
  obtain rfl : w = w' := funext fun k => funext (hw k)
  obtain rfl : b = b' := funext hb
  obtain rfl : v = v' := funext fun f => funext (hv f)
  obtain rfl : e = e' := funext he
  rfl

/-- What a grid point computes, from the arrays the program is given. -/
theorem point_at (h : Tables m) (t : Fin (cfgM m hO).N) (n : Fin 8192) (l : Fin 128) :
    (outsAt0 m hO c t : S8192x128.Idx → EReal) (ix2 n l) = arrayAt m c (rowAt t (lineRow n)) (lineCol n.val l) := by
  unfold arrayAt expertsAt
  rw [rowBlock_rowAt]
  by_cases hu : (blockOf t).val < ((m ((0 : Dev nD).tc.loc main_arg1) : S1.Idx → BitVec 32) (ix1 0)).toNat
  · rw [if_pos hu, outsAt0_A m hO c t ((in_use_iff m h t).mpr hu)]
    refine (block_used ..).trans (expertRow_congr (fun d => lines_read m c hO h t hu (lineRow n) d) (fun k f => ?_) (fun f => ?_)
      (fun f d => ?_) (fun d => ?_) _)
    · exact weight_at m c hO h t k f
    · exact bias_at m c hO h t f
    · exact down_at m c hO h t f d
    · exact out_bias_at m c hO h t d
  · rw [if_neg hu, outsAt0_B m hO c t (fun h0 => hu ((in_use_iff m h t).mp h0))]
    exact block_unused ..

/-- Every block of the result is some grid point's. -/
theorem covers5 : ((cfgM m hO).win 5).Covers := by
  refine Window.covers_of_index_surj _ rfl (fun (a : Fin 2) => ?_) fun β => ?_
  · fin_cases a
    · exact (show 0 < 8192 by norm_num)
    · exact (show 0 < 128 by norm_num)
  have hb : (β (0 : Fin 2)).val < 544 := lt_of_lt_of_eq (β (0 : Fin 2)).isLt (show (4456448 + 8192 - 1) / 8192 = 544 by norm_num)
  have hl : (β (1 : Fin 2)).val < 1 := lt_of_lt_of_eq (β (1 : Fin 2)).isLt (show (128 + 128 - 1) / 128 = 1 by norm_num)
  refine ⟨⟨(β (0 : Fin 2)).val, lt_of_lt_of_eq hb N_0.symm⟩, fun (a : Fin 2) => ?_⟩
  rw [index_5]
  fin_cases a
  · rfl
  · exact (Nat.lt_one_iff.mp hl).symm

/-- Where a grid point's block of the result lies. -/
theorem place_5 (t : Fin (cfgM m hO).N) (y : S8192x128.Idx) :
    ((((cfgM m hO).win 5).blk t).view.emb y : S4456448x128.Idx)
      = ix2 ⟨8192 * t.val + (y 0).val, by have : t.val < 544 := lt_of_lt_of_eq t.isLt N_0; have : (y 0).val < 8192 := (y 0).isLt; omega⟩ (y 1) := by
  have e5 := index_5 m hO t
  funext a
  fin_cases a
  · refine Fin.ext ?_
    blk_simp
    rw [e5]
    show t.val * 8192 + (y 0).val = 8192 * t.val + (y 0).val
    omega
  · refine Fin.ext ?_
    blk_simp
    rw [e5]
    show 0 * 128 + (y 1).val = (y 1).val
    omega

/-- The result array, index by index. -/
def result (y : S4456448x128.Idx) : EReal := arrayAt m c (rowOf (y 0)) (lineCol (y 0).val (y 1))

/-- A grid point's block is the result's. -/
theorem point_result (h : Tables m) (t : Fin (cfgM m hO).N) (n : Fin 8192) (l : Fin 128) :
    (outsAt0 m hO c t : S8192x128.Idx → EReal) (ix2 n l)
      = result m c (ix2 ⟨8192 * t.val + n.val, by have : t.val < 544 := lt_of_lt_of_eq t.isLt N_0; omega⟩ l) := by
  refine (point_at m c hO h t n l).trans ?_
  unfold result
  refine congrArg₂ (arrayAt m c) (Fin.ext ?_) (Fin.ext ?_)
  · show 512 * t.val + n.val / 16 = (8192 * t.val + n.val) / 16
    omega
  · show (1 - n.val % 2) * 1024 + n.val % 16 / 2 * 128 + l.val
      = (1 - (8192 * t.val + n.val) % 2) * 1024 + (8192 * t.val + n.val) % 16 / 2 * 128 + l.val
    rw [show (8192 * t.val + n.val) % 2 = n.val % 2 by omega, show (8192 * t.val + n.val) % 16 = n.val % 16 by omega]

/-- The call's result array. -/
theorem experts_array (h : Tables m) : (dats m hO 0 c).arrAt 5 (cfgM m hO).N = result m c := by
  refine (dats m hO 0 c).arrAt_eq_of_covers 5 _ (covers5 m hO) fun t hf (y : S8192x128.Idx) => ?_
  rw [after0_5]
  have e : y = ix2 (y 0) (y 1) := by funext a; fin_cases a <;> rfl
  have e2 : (outsAt0 m hO c t : S8192x128.Idx → EReal) y = result m c ((((cfgM m hO).win 5).blk t).view.emb y) := (congrArg (outsAt0 m hO c t : S8192x128.Idx → EReal) e).trans ((point_result m c hO h t (y 0) (y 1)).trans (congrArg (result m c) (place_5 m hO t y)).symm)
  refine (cast_eq _ _).trans ?_
  exact e2

end Cert.Proof.Experts

end

end
-- ==== Proof.ExpertsGather.lean ====
/- Taking an expert's weights: one slab of a stack for every row block, read at an index. -/
module

public import Idealize.ShloMosaic.Lib.Pipeline.ValueKit
public import Idealize.ShloMosaic.Lib.ValueIdxCore

@[expose] public section

noncomputable section

namespace Cert.Proof.Experts

open Idealize.ShloMosaic

variable {α : Type}

/-- A word that names one of 32 experts, read as a signed number and kept below 32, is itself. -/
theorem expert_word (w : BitVec 32) (h : w.toNat < 32) : min w.toInt.toNat 31 = min w.toNat 31 := by
  rw [BitVec.toInt_eq_toNat_cond, if_pos (by omega), Int.toNat_natCast]

section Matrices

/-- One matrix of a stack for every number of a list. -/
abbrev matDims (N A B K : ℕ) (wf : GatherDims.WF ⟨3, ![N, A, B]⟩ ⟨2, ![K, 1]⟩ ⟨3, ![K, A, B]⟩ [1, 2] [0] [] [0] [] 1 ![1, A, B]) :
    GatherDims ⟨3, ![N, A, B]⟩ ⟨2, ![K, 1]⟩ ⟨3, ![K, A, B]⟩ where
  offsetDims := [1, 2]
  collapsedSliceDims := [0]
  operandBatchingDims := []
  startIndicesBatchingDims := []
  startIndexMap := [0]
  indexVectorDim := 1
  sliceSizes := ![1, A, B]
  wf := wf

variable {N A B K : ℕ} (wf : GatherDims.WF ⟨3, ![N, A, B]⟩ ⟨2, ![K, 1]⟩ ⟨3, ![K, A, B]⟩ [1, 2] [0] [] [0] [] 1 ![1, A, B])

/-- The matrix taken for number `k` is the one that the number names. -/
theorem gather_mat (hN : 0 < N) (x : (⟨3, ![N, A, B]⟩ : Shape).Idx → α) (idx : IVec ⟨2, ![K, 1]⟩ 32) (k : Fin K) (a : Fin A) (b : Fin B) :
    Host.gather (matDims N A B K wf) x idx (ix3 k a b) = x (ix3 ⟨min (idx (ix2 k 0)).toInt.toNat (N - 1), by omega⟩ a b) := by
  unfold Host.gather
  refine congrArg x (funext fun c => Fin.ext ?_)
  show (matDims N A B K wf).start (ix3 k a b) idx c + (matDims N A B K wf).batchCoord (ix3 k a b) c
      + (matDims N A B K wf).offCoord (ix3 k a b) c = _
  rw [GatherDims.batchCoord_eq_zero _ _ _ List.not_mem_nil]
  have hc : c = 0 ∨ c = 1 ∨ c = 2 := by fin_cases c <;> simp
  rcases hc with rfl | rfl | rfl
  · rw [GatherDims.offCoord_eq_zero _ _ _ (fun h => ((GatherDims.mem_sKept _ _).mp h).1 (List.mem_singleton.mpr rfl))]
    unfold GatherDims.start
    rw [dif_pos (show _ ∈ [_] from List.mem_singleton.mpr rfl)]
    refine congrArg (fun i => min (idx i).toInt.toNat (N - 1)) (funext fun e => Fin.ext ?_)
    fin_cases e
    · rfl
    · rfl
  · unfold GatherDims.start
    rw [dif_neg (by simp)]
    unfold GatherDims.offCoord
    rw [dif_pos ((GatherDims.mem_sKept _ _).mpr ⟨by simp, by simp⟩)]
    simp only [Nat.zero_add]
    rfl
  · unfold GatherDims.start
    rw [dif_neg (by simp)]
    unfold GatherDims.offCoord
    rw [dif_pos ((GatherDims.mem_sKept _ _).mpr ⟨by simp, by simp⟩)]
    simp only [Nat.zero_add]
    rfl

end Matrices

section Rows

/-- One row of a matrix for every number of a list. -/
abbrev vecDims (N A K : ℕ) (wf : GatherDims.WF ⟨2, ![N, A]⟩ ⟨2, ![K, 1]⟩ ⟨2, ![K, A]⟩ [1] [0] [] [0] [] 1 ![1, A]) :
    GatherDims ⟨2, ![N, A]⟩ ⟨2, ![K, 1]⟩ ⟨2, ![K, A]⟩ where
  offsetDims := [1]
  collapsedSliceDims := [0]
  operandBatchingDims := []
  startIndicesBatchingDims := []
  startIndexMap := [0]
  indexVectorDim := 1
  sliceSizes := ![1, A]
  wf := wf

variable {N A K : ℕ} (wf : GatherDims.WF ⟨2, ![N, A]⟩ ⟨2, ![K, 1]⟩ ⟨2, ![K, A]⟩ [1] [0] [] [0] [] 1 ![1, A])

/-- The row taken for number `k` is the one that the number names. -/
theorem gather_vec (hN : 0 < N) (x : (⟨2, ![N, A]⟩ : Shape).Idx → α) (idx : IVec ⟨2, ![K, 1]⟩ 32) (k : Fin K) (a : Fin A) :
    Host.gather (vecDims N A K wf) x idx (ix2 k a) = x (ix2 ⟨min (idx (ix2 k 0)).toInt.toNat (N - 1), by omega⟩ a) := by
  unfold Host.gather
  refine congrArg x (funext fun c => Fin.ext ?_)
  show (vecDims N A K wf).start (ix2 k a) idx c + (vecDims N A K wf).batchCoord (ix2 k a) c
      + (vecDims N A K wf).offCoord (ix2 k a) c = _
  rw [GatherDims.batchCoord_eq_zero _ _ _ List.not_mem_nil]
  have hc : c = 0 ∨ c = 1 := by fin_cases c <;> simp
  rcases hc with rfl | rfl
  · rw [GatherDims.offCoord_eq_zero _ _ _ (fun h => ((GatherDims.mem_sKept _ _).mp h).1 (List.mem_singleton.mpr rfl))]
    unfold GatherDims.start
    rw [dif_pos (show _ ∈ [_] from List.mem_singleton.mpr rfl)]
    refine congrArg (fun i => min (idx i).toInt.toNat (N - 1)) (funext fun e => Fin.ext ?_)
    fin_cases e
    · rfl
    · rfl
  · unfold GatherDims.start
    rw [dif_neg (by simp)]
    unfold GatherDims.offCoord
    rw [dif_pos ((GatherDims.mem_sKept _ _).mpr ⟨by simp, by simp⟩)]
    simp only [Nat.zero_add]
    rfl

end Rows

end Cert.Proof.Experts

end

end
-- ==== Proof.ExpertsReference.lean ====
/- The experts' reference: its rows, its experts' weights, and its result, each read at an index. -/
module

public import proofs.«01_k».proof.Proof.Gen.Reference2Ideal.Read
public import proofs.«01_k».proof.Proof.ExpertsArray
public import proofs.«01_k».proof.Proof.ExpertsGather

@[expose] public section

set_option maxRecDepth 16384

noncomputable section

namespace Cert.Proof.Experts.Ref

open Cert.Reference2Ideal Cert.Reference2Ideal.Gen Cert.Reference2Ideal.Read Idealize.ShloMosaic Idealize.ShloMosaic.TcCoe
open Idealize.SL.Sem Idealize.ShloMosaic.StableHlo

/-! ## The rows -/

variable (x : S4456448x128.Idx → EReal)

/-- The rows' lines as (row, sublane, half, lane). -/
theorem pair_at (r : Fin 278528) (s : Fin 8) (p : Fin 2) (l : Fin 128) :
    val_main_v0 (F := Ideal) x (ix4 r s p l) = x (ix2 ⟨(r.val * 8 + s.val) * 2 + p.val, by omega⟩ l) := by
  unfold val_main_v0
  exact shapeCast_apply _ _ _ _ (by
    rewrite [Shape.rowMajor_val_two, Shape.rowMajor_val_four]
    rfl)

/-- A row's first half of columns: the upper halves of its pairs. -/
theorem hi_at (r : Fin 278528) (d : Fin 1024) :
    val_main_v3 (F := Ideal) x (ix2 r d)
      = x (ix2 ⟨(r.val * 8 + d.val / 128) * 2 + 1, by omega⟩ ⟨d.val % 128, by omega⟩) := by
  refine Eq.trans ?_ (pair_at x r ⟨d.val / 128, by omega⟩ 1 ⟨d.val % 128, by omega⟩)
  unfold val_main_v3 val_main_v2 val_main_v1
  generalize val_main_v0 (F := Ideal) x = Y
  rw [shapeCast_apply _ _ _ (ix3 r (⟨d.val / 128, by omega⟩ : Fin 8) (⟨d.val % 128, by omega⟩ : Fin 128)) (by
    rewrite [Shape.rowMajor_val_two, Shape.rowMajor_val_three]
    show (r.val * 8 + d.val / 128) * 128 + d.val % 128 = r.val * 1024 + d.val
    omega)]
  rw [shapeCast_apply _ _ _ (ix4 r (⟨d.val / 128, by omega⟩ : Fin 8) (0 : Fin 1) (⟨d.val % 128, by omega⟩ : Fin 128)) (by
    rewrite [Shape.rowMajor_val_three, Shape.rowMajor_val_four]
    show ((r.val * 8 + d.val / 128) * 1 + 0) * 128 + d.val % 128 = (r.val * 8 + d.val / 128) * 128 + d.val % 128
    omega)]
  refine extractStridedSlice_apply _ _ _ _ _ fun b => ?_
  fin_cases b
  · show r.val = 0 + r.val; omega
  · show d.val / 128 = 0 + d.val / 128; omega
  · rfl
  · show d.val % 128 = 0 + d.val % 128; omega

/-- A row's second half of columns: the lower halves of its pairs. -/
theorem lo_at (r : Fin 278528) (d : Fin 1024) :
    val_main_v6 (F := Ideal) x (ix2 r d)
      = x (ix2 ⟨(r.val * 8 + d.val / 128) * 2 + 0, by omega⟩ ⟨d.val % 128, by omega⟩) := by
  refine Eq.trans ?_ (pair_at x r ⟨d.val / 128, by omega⟩ 0 ⟨d.val % 128, by omega⟩)
  unfold val_main_v6 val_main_v5 val_main_v4
  generalize val_main_v0 (F := Ideal) x = Y
  rw [shapeCast_apply _ _ _ (ix3 r (⟨d.val / 128, by omega⟩ : Fin 8) (⟨d.val % 128, by omega⟩ : Fin 128)) (by
    rewrite [Shape.rowMajor_val_two, Shape.rowMajor_val_three]
    show (r.val * 8 + d.val / 128) * 128 + d.val % 128 = r.val * 1024 + d.val
    omega)]
  rw [shapeCast_apply _ _ _ (ix4 r (⟨d.val / 128, by omega⟩ : Fin 8) (0 : Fin 1) (⟨d.val % 128, by omega⟩ : Fin 128)) (by
    rewrite [Shape.rowMajor_val_three, Shape.rowMajor_val_four]
    show ((r.val * 8 + d.val / 128) * 1 + 0) * 128 + d.val % 128 = (r.val * 8 + d.val / 128) * 128 + d.val % 128
    omega)]
  refine extractStridedSlice_apply _ _ _ _ _ fun b => ?_
  fin_cases b
  · show r.val = 0 + r.val; omega
  · show d.val / 128 = 0 + d.val / 128; omega
  · rfl
  · show d.val % 128 = 0 + d.val % 128; omega

/-- The rows from the lines that hold them. -/
theorem flat_at (r : Fin 278528) (d : Fin 2048) : val_main_v7 (F := Ideal) x (ix2 r d) = wholeRow x r d := by
  unfold wholeRow
  by_cases h : d.val < 1024
  · refine Eq.trans ?_ ((hi_at x r ⟨d.val, h⟩).trans ?_)
    · unfold val_main_v7
      generalize val_main_v3 (F := Ideal) x = Y
      generalize val_main_v6 (F := Ideal) x = Z
      refine concatenate_pair_apply_left (s₁ := S278528x1024) (s₂ := S278528x1024) (t := S278528x2048) _ _ _ _ _ rfl
        (ix2 r (⟨d.val, h⟩ : Fin 1024)) ?_
      intro b
      fin_cases b <;> rfl
    · refine congrArg x (congrArg₂ ix2 (Fin.ext ?_) rfl)
      show (r.val * 8 + d.val / 128) * 2 + 1 = (r.val * 8 + d.val % 1024 / 128) * 2 + (1 - d.val / 1024)
      omega
  · have hd : d.val - 1024 < 1024 := by omega
    refine Eq.trans ?_ ((lo_at x r ⟨d.val - 1024, hd⟩).trans ?_)
    · unfold val_main_v7
      generalize val_main_v3 (F := Ideal) x = Y
      generalize val_main_v6 (F := Ideal) x = Z
      refine concatenate_pair_apply_right (s₁ := S278528x1024) (s₂ := S278528x1024) (t := S278528x2048) _ _ _ _ _ rfl rfl
        (ix2 r (⟨d.val - 1024, hd⟩ : Fin 1024)) ?_ ?_
      · intro b hb
        fin_cases b
        · rfl
        · exact absurd rfl hb
      · show d.val - 1024 + 1024 = d.val
        omega
    · refine congrArg x (congrArg₂ ix2 (Fin.ext ?_) (Fin.ext ?_))
      · show (r.val * 8 + (d.val - 1024) / 128) * 2 + 0 = (r.val * 8 + d.val % 1024 / 128) * 2 + (1 - d.val / 1024)
        omega
      · show (d.val - 1024) % 128 = d.val % 128
        omega

/-- Row `r` of row block `k`. -/
def blockRowIx (k : Fin 544) (r : Fin 512) : Fin 278528 := ⟨k.val * 512 + r.val, by omega⟩

/-- The rows block by block. -/
theorem row_at (k : Fin 544) (r : Fin 512) (d : Fin 2048) :
    val_main_v8 (F := Ideal) x (ix3 k r d) = wholeRow x (blockRowIx k r) d := by
  rw [← flat_at]
  unfold val_main_v8
  generalize val_main_v7 (F := Ideal) x = Y
  exact shapeCast_apply _ _ _ _ (by
    rewrite [Shape.rowMajor_val_two, Shape.rowMajor_val_three]
    rfl)

/-! ## The experts -/

variable (be : S544.Idx → BitVec 32) (hbe : ∀ k : Fin 544, (be (ix1 k)).toNat < 32)

/-- A number in range is not negative, so it is taken as it stands. -/
theorem kept_word (w : BitVec 32) (h : w.toNat < 32) : Scalar.select (IntOp.cmpi .slt w 0#32) (w + 32#32) w = w := by
  have e : IntOp.cmpi .slt w 0#32 = 0#1 := by
    show BitVec.ofBool (decide (w.toInt < (0#32).toInt)) = 0#1
    rw [BitVec.toInt_eq_toNat_cond, if_pos (by omega)]
    have : ¬ ((w.toNat : ℤ) < (0#32).toInt) := by
      show ¬ ((w.toNat : ℤ) < 0)
      omega
    rw [decide_eq_false this]
    rfl
  rw [e]
  rfl

include hbe in
/-- The index that the weights are taken by. -/
theorem index_at (k : Fin 544) : val_main_v14 (F := Ideal) be (ix2 k 0) = be (ix1 k) := by
  refine Eq.trans ?_ (kept_word (be (ix1 k)) (hbe k))
  rw [val_main_v14_apply, show idx_main_v14 (ix2 k 0) = ix1 k from funext fun a => by match a with | ⟨0, _⟩ => rfl]
  rfl

variable (w : S32x2048x4096.Idx → EReal) (b : S32x4096.Idx → EReal) (v : S32x2048x2048.Idx → EReal) (e : S32x2048.Idx → EReal)

include hbe in
/-- The expert that an index names. -/
theorem expert_ix (k : Fin 544) (h : min (val_main_v14 (F := Ideal) be (ix2 k 0)).toInt.toNat (32 - 1) < 32) :
    (⟨min (val_main_v14 (F := Ideal) be (ix2 k 0)).toInt.toNat (32 - 1), h⟩ : Fin 32) = expertIx be k := by
  refine Fin.ext ?_
  show min (val_main_v14 (F := Ideal) be (ix2 k 0)).toInt.toNat (32 - 1) = _
  rw [index_at be hbe]
  exact expert_word _ (hbe k)

include hbe in
/-- A row block's first weights. -/
theorem weights_at (k : Fin 544) (d : Fin 2048) (f : Fin 4096) :
    val_main_v15 (F := Ideal) be w (ix3 k d f) = w (ix3 (expertIx be k) d f) := by
  refine Eq.trans (gather_mat (N := 32) (A := 2048) (B := 4096) (K := 544)
    gather_S32x2048x4096_S544x1_S544x2048x4096_12_0_n_n_0_1_120484096.wf (by norm_num) w (val_main_v14 (F := Ideal) be) k d f) ?_
  exact congrArg (fun i => w (ix3 i d f)) (expert_ix be hbe k _)

include hbe in
/-- A row block's first bias. -/
theorem bias_at (k : Fin 544) (f : Fin 4096) :
    val_main_v23 (F := Ideal) be b (ix2 k f) = b (ix2 (expertIx be k) f) := by
  refine Eq.trans (gather_vec (N := 32) (A := 4096) (K := 544)
    gather_S32x4096_S544x1_S544x4096_1_0_n_n_0_1_14096.wf (by norm_num) b (val_main_v22 (F := Ideal) be) k f) ?_
  exact congrArg (fun i => b (ix2 i f)) (expert_ix be hbe k _)

include hbe in
/-- A row block's second weights. -/
theorem down_at (k : Fin 544) (f d : Fin 2048) :
    val_main_v50 (F := Ideal) be v (ix3 k f d) = v (ix3 (expertIx be k) f d) := by
  refine Eq.trans (gather_mat (N := 32) (A := 2048) (B := 2048) (K := 544)
    gather_S32x2048x2048_S544x1_S544x2048x2048_12_0_n_n_0_1_120482048.wf (by norm_num) v (val_main_v49 (F := Ideal) be) k f d) ?_
  exact congrArg (fun i => v (ix3 i f d)) (expert_ix be hbe k _)

include hbe in
/-- A row block's second bias. -/
theorem out_bias_at (k : Fin 544) (d : Fin 2048) :
    val_main_v59 (F := Ideal) be e (ix2 k d) = e (ix2 (expertIx be k) d) := by
  refine Eq.trans (gather_vec (N := 32) (A := 2048) (K := 544)
    gather_S32x2048_S544x1_S544x2048_1_0_n_n_0_1_12048.wf (by norm_num) e (val_main_v58 (F := Ideal) be) k d) ?_
  exact congrArg (fun i => e (ix2 i d)) (expert_ix be hbe k _)

/-! ## The two products -/

include hbe in
/-- The first product, with its bias. -/
theorem product_at (k : Fin 544) (r : Fin 512) (f : Fin 4096) :
    val_main_v26 (F := Ideal) be x w b (ix3 k r f)
      = ∑ d : Fin 2048, wholeRow x (blockRowIx k r) d * w (ix3 (expertIx be k) d f) + b (ix2 (expertIx be k) f) := by
  rw [val_main_v26_apply, val_main_v16_apply]
  refine congrArg₂ (· + ·) (Finset.sum_congr rfl fun d _ => congrArg₂ (· * ·) ?_ ?_) ?_
  · refine Eq.trans (congrArg (val_main_v8 (F := Ideal) x) (funext fun a => ?_)) (row_at x k r d)
    match a with | ⟨0, _⟩ => rfl | ⟨1, _⟩ => rfl | ⟨2, _⟩ => rfl
  · refine Eq.trans (congrArg (val_main_v15 (F := Ideal) be w) (funext fun a => ?_)) (weights_at be hbe w k d f)
    match a with | ⟨0, _⟩ => rfl | ⟨1, _⟩ => rfl | ⟨2, _⟩ => rfl
  · rw [val_main_v25_apply, val_main_v24_apply]
    refine Eq.trans (congrArg (val_main_v23 (F := Ideal) be b) (funext fun a => ?_)) (bias_at be hbe b k f)
    match a with | ⟨0, _⟩ => rfl | ⟨1, _⟩ => rfl

/-- The gate's half of the first product. -/
theorem gate_at (k : Fin 544) (r : Fin 512) (f : Fin 2048) :
    val_main_v27 (F := Ideal) be x w b (ix3 k r f) = val_main_v26 (F := Ideal) be x w b (ix3 k r (gateCol f)) := by
  unfold val_main_v27
  generalize val_main_v26 (F := Ideal) be x w b = Y
  refine extractStridedSlice_apply _ _ _ _ _ fun a => ?_
  fin_cases a
  · show k.val = 0 + k.val; omega
  · show r.val = 0 + r.val; omega
  · show f.val = 0 + f.val; omega

/-- The linear half of the first product. -/
theorem lin_at (k : Fin 544) (r : Fin 512) (f : Fin 2048) :
    val_main_v30 (F := Ideal) be x w b (ix3 k r f) = val_main_v26 (F := Ideal) be x w b (ix3 k r (linCol f)) := by
  unfold val_main_v30
  generalize val_main_v26 (F := Ideal) be x w b = Y
  refine extractStridedSlice_apply _ _ _ _ _ fun a => ?_
  fin_cases a
  · show k.val = 0 + k.val; omega
  · show r.val = 0 + r.val; omega
  · show 2048 + f.val = 2048 + f.val; rfl

/-- The gated unit. -/
theorem act_at (k : Fin 544) (r : Fin 512) (f : Fin 2048) :
    val_main_v43 (F := Ideal) be x w b (ix3 k r f)
      = act (val_main_v26 (F := Ideal) be x w b (ix3 k r (gateCol f))) (val_main_v26 (F := Ideal) be x w b (ix3 k r (linCol f))) := by
  have eg := gate_at x be w b k r f
  have el := lin_at x be w b k r f
  rw [← eg, ← el]
  rw [val_main_v43_apply, val_main_v42_apply, val_main_v41_apply, val_main_cst_8_apply, val_main_v40_apply, val_main_v39_apply,
    val_main_v38_apply, val_main_cst_7_apply, val_main_v37_apply, val_main_v36_apply, val_main_cst_6_apply, val_main_v35_apply,
    val_main_v34_apply, val_main_v33_apply, val_main_v32_apply, val_main_cst_5_apply, val_main_v31_apply, val_main_call0_v4_apply,
    val_main_call0_v3_apply, val_main_cst_4_apply, val_main_call0_v2_apply, val_main_call0_v1_apply, val_main_call0_v0_apply,
    val_main_cst_3_apply, val_main_v29_apply, val_main_v28_apply, val_main_cst_apply]
  generalize val_main_v27 (F := Ideal) be x w b (ix3 k r f) = g
  generalize val_main_v30 (F := Ideal) be x w b (ix3 k r f) = u
  have h1 : (FloatOps.ofBits (F := Ideal) .f32 0x3F800000#32 : EReal) = 1 := Ideal.ofBits_one_f32
  rw [h1]
  rfl

end Cert.Proof.Experts.Ref

end

end
-- ==== Proof.ExpertsEquation.lean ====
/- The experts' reference result, index by index, and its equality with the call's. -/
module

public import proofs.«01_k».proof.Proof.ExpertsReference

@[expose] public section

set_option maxRecDepth 16384

noncomputable section

namespace Cert.Proof.Experts.Ref

open Cert.Reference2Ideal Cert.Reference2Ideal.Gen Cert.Reference2Ideal.Read Idealize.ShloMosaic Idealize.ShloMosaic.TcCoe
open Idealize.SL.Sem Idealize.ShloMosaic.StableHlo

variable (be : S544.Idx → BitVec 32) (hbe : ∀ k : Fin 544, (be (ix1 k)).toNat < 32) (nu : S1.Idx → BitVec 32)
variable (x : S4456448x128.Idx → EReal) (w : S32x2048x4096.Idx → EReal) (b : S32x4096.Idx → EReal)
variable (v : S32x2048x2048.Idx → EReal) (e : S32x2048.Idx → EReal)

include hbe in
/-- A hidden value. -/
theorem hidden_at (k : Fin 544) (r : Fin 512) (f : Fin 2048) :
    val_main_v43 (F := Ideal) be x w b (ix3 k r f)
      = hidden (wholeRow x (blockRowIx k r)) (fun d f => w (ix3 (expertIx be k) d f)) (fun f => b (ix2 (expertIx be k) f)) f := by
  rw [act_at, product_at x be hbe, product_at x be hbe]
  rfl

include hbe in
/-- A row's result, its block in use or not. -/
theorem result_at (k : Fin 544) (r : Fin 512) (d : Fin 2048) :
    val_main_v62 (F := Ideal) be x w b v e (ix3 k r d)
      = expertRow (wholeRow x (blockRowIx k r)) (fun d f => w (ix3 (expertIx be k) d f)) (fun f => b (ix2 (expertIx be k) f))
          (fun f d => v (ix3 (expertIx be k) f d)) (fun d => e (ix2 (expertIx be k) d)) d := by
  rw [val_main_v62_apply, val_main_v52_apply]
  unfold expertRow
  refine congrArg₂ (· + ·) (Finset.sum_congr rfl fun f _ => congrArg₂ (· * ·) ?_ ?_) ?_
  · refine Eq.trans (congrArg (val_main_v43 (F := Ideal) be x w b) (funext fun a => ?_)) (hidden_at be hbe x w b k r f)
    match a with | ⟨0, _⟩ => rfl | ⟨1, _⟩ => rfl | ⟨2, _⟩ => rfl
  · rw [val_main_v51_apply]
    refine Eq.trans (congrArg (val_main_v50 (F := Ideal) be v) (funext fun a => ?_)) (down_at be hbe v k f d)
    match a with | ⟨0, _⟩ => rfl | ⟨1, _⟩ => rfl | ⟨2, _⟩ => rfl
  · rw [val_main_v61_apply, val_main_v60_apply]
    refine Eq.trans (congrArg (val_main_v59 (F := Ideal) be e) (funext fun a => ?_)) (out_bias_at be hbe e k d)
    match a with | ⟨0, _⟩ => rfl | ⟨1, _⟩ => rfl

/-- A number below 544 against a word, as signed words. -/
theorem used_bit (n : ℕ) (hn : n < 544) (u : BitVec 32) (hu : u.toNat < 2 ^ 31) :
    IntOp.cmpi .slt (BitVec.ofNat 32 n) u = BitVec.ofBool (decide (n < u.toNat)) := by
  have e0 : (BitVec.ofNat 32 n).toInt = n := by
    rw [BitVec.toInt_eq_toNat_cond, BitVec.toNat_ofNat, Nat.mod_eq_of_lt (by omega), if_pos (by omega)]
  have e1 : u.toInt = u.toNat := by rw [BitVec.toInt_eq_toNat_cond, if_pos (by omega)]
  show BitVec.ofBool (decide ((BitVec.ofNat 32 n).toInt < u.toInt)) = _
  rw [e0, e1]
  simp

/-- Whether a row block is in use. -/
theorem used_at (hu : (nu (ix1 0)).toNat < 2 ^ 31) (k : Fin 544) :
    val_main_v66 (F := Ideal) nu (ix1 k) = BitVec.ofBool (decide (k.val < (nu (ix1 0)).toNat)) := by
  refine Eq.trans ?_ (used_bit k.val k.isLt _ hu)
  rw [val_main_v66_apply, val_main_v63_apply, val_main_v65_apply]
  refine congrArg (fun u => IntOp.cmpi .slt (BitVec.ofNat 32 k.val) u) ?_
  unfold val_main_v64 shapeCast
  exact congrArg nu (one_idx _ _)

include hbe in
/-- One value of the reference's rows. -/
theorem rows_at (hu : (nu (ix1 0)).toNat < 2 ^ 31) (k : Fin 544) (r : Fin 512) (d : Fin 2048) :
    val_main_v69 (F := Ideal) be nu x w b v e (ix3 k r d) = expertsAt be nu x w b v e (blockRowIx k r) d := by
  have hk : rowBlock (blockRowIx k r) = k := Fin.ext (by show (k.val * 512 + r.val) / 512 = k.val; omega)
  unfold expertsAt
  rw [hk, ← result_at be hbe, val_main_v69_apply, val_main_v68_apply, val_main_call1_v1_apply, val_main_v67_apply,
    val_main_call1_v2_apply, val_main_call1_v0_apply, val_main_cst_13_apply,
    show idx_main_v67 (idx_main_call1_v1 (ix3 k r d)) = ix1 k from funext fun a => by match a with | ⟨0, _⟩ => rfl,
    used_at nu hu]
  generalize val_main_v62 (F := Ideal) be x w b v e (ix3 k r d) = y
  by_cases h : k.val < (nu (ix1 0)).toNat
  · rw [if_pos h, decide_eq_true h]
    rfl
  · rw [if_neg h, decide_eq_false h]
    exact Ideal.ofBits_zero_f32

/-! ## The result's lines -/

section Lines

variable (R : Fin 278528 → Fin 2048 → EReal)
  (hR : ∀ (r : Fin 278528) (d : Fin 2048), val_main_v70 (F := Ideal) be nu x w b v e (ix2 r d) = R r d)

include hR in
/-- A row's columns from 1024 on, which come first in each pair of lines. -/
theorem hi_line (r : Fin 278528) (s : Fin 8) (l : Fin 128) :
    val_main_v75 (F := Ideal) be nu x w b v e (ix4 r s 0 l) = R r ⟨1024 + (s.val * 128 + l.val), by omega⟩ := by
  rw [← hR, val_main_v75_apply]
  unfold val_main_v72 val_main_v71
  generalize val_main_v70 (F := Ideal) be nu x w b v e = Y
  rw [shapeCast_apply _ _ _ (ix2 r (⟨s.val * 128 + l.val, by omega⟩ : Fin 1024)) (by
    rewrite [Shape.rowMajor_val_two, Shape.rowMajor_val_three]
    show r.val * 1024 + (s.val * 128 + l.val) = (r.val * 8 + s.val) * 128 + l.val
    omega)]
  refine extractStridedSlice_apply _ _ _ _ _ fun a => ?_
  fin_cases a
  · show r.val = 0 + r.val; omega
  · show 1024 + (s.val * 128 + l.val) = 1024 + (s.val * 128 + l.val); rfl

include hR in
/-- A row's columns below 1024, which come second in each pair of lines. -/
theorem lo_line (r : Fin 278528) (s : Fin 8) (l : Fin 128) :
    val_main_v76 (F := Ideal) be nu x w b v e (ix4 r s 0 l) = R r ⟨0 + (s.val * 128 + l.val), by omega⟩ := by
  rw [← hR, val_main_v76_apply]
  unfold val_main_v74 val_main_v73
  generalize val_main_v70 (F := Ideal) be nu x w b v e = Y
  rw [shapeCast_apply _ _ _ (ix2 r (⟨s.val * 128 + l.val, by omega⟩ : Fin 1024)) (by
    rewrite [Shape.rowMajor_val_two, Shape.rowMajor_val_three]
    show r.val * 1024 + (s.val * 128 + l.val) = (r.val * 8 + s.val) * 128 + l.val
    omega)]
  refine extractStridedSlice_apply _ _ _ _ _ fun a => ?_
  fin_cases a
  · show r.val = 0 + r.val; omega
  · show 0 + (s.val * 128 + l.val) = 0 + (s.val * 128 + l.val); rfl

include hR in
/-- A line's row and columns. -/
theorem line_at (n : Fin 4456448) (l : Fin 128) :
    val_main_v78 (F := Ideal) be nu x w b v e (ix2 n l) = R (rowOf n) (lineCol n.val l) := by
  have hl := l.isLt
  have e0 : val_main_v78 (F := Ideal) be nu x w b v e (ix2 n l) = val_main_v77 (F := Ideal) be nu x w b v e
      (ix4 (rowOf n) (⟨n.val % 16 / 2, by omega⟩ : Fin 8) (⟨n.val % 2, by omega⟩ : Fin 2) l) := by
    unfold val_main_v78
    generalize val_main_v77 (F := Ideal) be nu x w b v e = Y
    exact shapeCast_apply _ _ _ _ (by
      rewrite [Shape.rowMajor_val_two, Shape.rowMajor_val_four]
      show ((n.val / 16 * 8 + n.val % 16 / 2) * 2 + n.val % 2) * 128 + l.val = n.val * 128 + l.val
      omega)
  rw [e0]
  rcases Nat.mod_two_eq_zero_or_one n.val with h | h
  · refine Eq.trans ?_ ((hi_line be nu x w b v e R hR (rowOf n) ⟨n.val % 16 / 2, by omega⟩ l).trans ?_)
    · unfold val_main_v77
      generalize val_main_v75 (F := Ideal) be nu x w b v e = Y
      generalize val_main_v76 (F := Ideal) be nu x w b v e = Z
      refine concatenate_pair_apply_left (s₁ := S278528x8x1x128) (s₂ := S278528x8x1x128) (t := S278528x8x2x128) _ _ _ _ _ rfl
        (ix4 (rowOf n) (⟨n.val % 16 / 2, by omega⟩ : Fin 8) (0 : Fin 1) l) ?_
      intro a
      fin_cases a
      · rfl
      · rfl
      · exact h.symm
      · rfl
    · refine congrArg (R (rowOf n)) (Fin.ext ?_)
      show 1024 + (n.val % 16 / 2 * 128 + l.val) = (1 - n.val % 2) * 1024 + n.val % 16 / 2 * 128 + l.val
      omega
  · refine Eq.trans ?_ ((lo_line be nu x w b v e R hR (rowOf n) ⟨n.val % 16 / 2, by omega⟩ l).trans ?_)
    · unfold val_main_v77
      generalize val_main_v75 (F := Ideal) be nu x w b v e = Y
      generalize val_main_v76 (F := Ideal) be nu x w b v e = Z
      refine concatenate_pair_apply_right (s₁ := S278528x8x1x128) (s₂ := S278528x8x1x128) (t := S278528x8x2x128) _ _ _ _ _ rfl rfl
        (ix4 (rowOf n) (⟨n.val % 16 / 2, by omega⟩ : Fin 8) (0 : Fin 1) l) ?_ ?_
      · intro a ha
        fin_cases a
        · rfl
        · rfl
        · exact absurd rfl ha
        · rfl
      · show 0 + 1 = n.val % 2
        omega
    · refine congrArg (R (rowOf n)) (Fin.ext ?_)
      show 0 + (n.val % 16 / 2 * 128 + l.val) = (1 - n.val % 2) * 1024 + n.val % 16 / 2 * 128 + l.val
      omega

end Lines

include hbe in
/-- The rows of all blocks, one under the other. -/
theorem flat_rows_at (hu : (nu (ix1 0)).toNat < 2 ^ 31) (r : Fin 278528) (d : Fin 2048) :
    val_main_v70 (F := Ideal) be nu x w b v e (ix2 r d) = expertsAt be nu x w b v e r d := by
  have hr : blockRowIx (rowBlock r) (⟨r.val % 512, by omega⟩ : Fin 512) = r :=
    Fin.ext (by show r.val / 512 * 512 + r.val % 512 = r.val; omega)
  refine Eq.trans ?_ ((rows_at be hbe nu x w b v e hu (rowBlock r) ⟨r.val % 512, by omega⟩ d).trans (by rw [hr]))
  unfold val_main_v70
  generalize val_main_v69 (F := Ideal) be nu x w b v e = Y
  exact shapeCast_apply _ _ _ _ (by
    rewrite [Shape.rowMajor_val_two, Shape.rowMajor_val_three]
    show (r.val / 512 * 512 + r.val % 512) * 2048 + d.val = r.val * 2048 + d.val
    omega)

include hbe in
/-- The reference's result, index by index. -/
theorem reference_at (hu : (nu (ix1 0)).toNat < 2 ^ 31) (y : S4456448x128.Idx) :
    val_main_v78 (F := Ideal) be nu x w b v e y = expertsAt be nu x w b v e (rowOf (y 0)) (lineCol (y 0).val (y 1)) := by
  obtain ⟨n, l, rfl⟩ : ∃ (n : Fin 4456448) (l : Fin 128), y = ix2 n l := ⟨y 0, y 1, by funext a; fin_cases a <;> rfl⟩
  exact line_at be nu x w b v e _ (fun r d => flat_rows_at be hbe nu x w b v e hu r d) n l

end Cert.Proof.Experts.Ref

end

end
-- ==== Proof.ProjectionSpec.lean ====
/- The input projection in plain terms: one element of a normalised row, one element of its product with the weights, and the
   norm of a head of 64 columns, as the reference takes it and as the kernel takes it over a tile of several heads. -/
module

public import Idealize.ShloMosaic.Lib.Pointwise

@[expose] public section

noncomputable section

namespace Cert.Proof.Projection

open Idealize.ShloMosaic

/-- Element `d` of a row divided by its root mean square and scaled. -/
def mixed (x g : Fin 2048 → EReal) (d : Fin 2048) : EReal :=
  x d * Ideal.rsqrt (Ideal.div (∑ e, x e * x e) (Ideal.ofBits .f32 1157627904#32) + Ideal.ofBits .f32 897988541#32) * g d

/-- One element of a normalised row's product with a column of weights. -/
def product (x g w : Fin 2048 → EReal) : EReal := ∑ d, mixed x g d * w d

/-- Element `d` of a head divided by the head's root mean square and scaled. -/
def headNormed (a g : Fin 64 → EReal) (d : Fin 64) : EReal :=
  a d * Ideal.rsqrt (Ideal.div (∑ e, a e * a e) (Ideal.ofBits .f32 1115684864#32) + Ideal.ofBits .f32 897988541#32) * g d

/-- An element `a` of a tile of `n` columns, divided by a root mean square that is found by multiplying the tile's squares with a
    column `o` of zeros and ones, the squares' leading parts and their remainders apart, and scaled by `g`. -/
def tileNormed {n : ℕ} (t o : Fin n → EReal) (a g : EReal) : EReal :=
  a * Ideal.rsqrt ((∑ c, t c * t c * o c + ∑ c, (t c * t c - t c * t c) * o c) * Ideal.ofBits .f32 1015021568#32
    + Ideal.ofBits .f32 897988541#32) * g

/-- The first column of the head that column `c` lies in, moved by `e`. -/
def headCol (c : Fin 4608) (e : Fin 64) : Fin 4608 := ⟨64 * (c.val / 64) + e.val, by omega⟩

/-- The column within its head of column `c`. -/
def inHead (c : Fin 4608) : Fin 64 := ⟨c.val % 64, by omega⟩

/-- A row of projections with the heads of its queries and of its keys divided by their root mean squares. -/
def finished (a : Fin 4608 → EReal) (gq gk : Fin 64 → EReal) (c : Fin 4608) : EReal :=
  if c.val < 1024 then headNormed (fun e => a (headCol c e)) gq (inHead c)
  else if c.val < 1280 then headNormed (fun e => a (headCol c e)) gk (inHead c)
  else a c

end Cert.Proof.Projection

end

end
-- ==== Proof.ProjectionPays.lean ====
/- The values that the projection's kernel stores, at an index. -/
module

public import proofs.«01_k».proof.Proof.ProjectionSpec
public import proofs.«01_k».proof.Proof.Gen.Kernel3Ideal.Value

@[expose] public section

set_option maxRecDepth 16384

noncomputable section

namespace Cert.Proof.Projection

open Cert.Kernel3Ideal Cert.Kernel3Ideal.Gen Idealize.ShloMosaic Idealize.ShloMosaic.TcCoe Idealize.SL.Sem

theorem mixed_pay (x : Vec Ideal S512x2048 .f32) (g : Vec Ideal S1x2048 .f32) (r : Fin 512) (d : Fin 2048) :
    k0_pay4 (F := Ideal) x g (ix2 r d) = mixed (fun e => x (ix2 r e)) (fun e => g (ix2 0 e)) d := by
  unfold k0_pay4 mixed
  pointwise

/-- One element of a tile of products. -/
def tile (h : FVec Ideal S512x2048 .bf16) (w : Vec Ideal S2048x512 .bf16) (r c : Fin 512) : EReal :=
  ∑ d : Fin 2048, h (ix2 r d) * w (ix2 d c)

theorem tile_pay (h : FVec Ideal S512x2048 .bf16) (w : Vec Ideal S2048x512 .bf16) (r c : Fin 512) :
    k0_pay7 (F := Ideal) h w (ix2 r c) = tile h w r c := by
  unfold k0_pay7 tile
  pointwise

theorem plain_pay (h : FVec Ideal S512x2048 .bf16) (w : Vec Ideal S2048x512 .bf16) (r c : Fin 512) :
    k0_pay1 (F := Ideal) h w (ix2 r c) = tile h w r c := by
  unfold k0_pay1 tile
  pointwise

theorem query_pay (h : FVec Ideal S512x2048 .bf16) (w : Vec Ideal S2048x512 .bf16) (g : Vec Ideal S1x512 .f32)
    (o : Vec Ideal S512x512 .bf16) (r c : Fin 512) :
    k0_pay6 (F := Ideal) h w g o (ix2 r c)
      = tileNormed (tile h w r) (fun e => o (ix2 e c)) (tile h w r c) (g (ix2 0 c)) := by
  unfold k0_pay6 tileNormed tile
  pointwise

/-- A column of the first half of a tile, and of its second half. -/
def lower (c : Fin 256) : Fin 512 := ⟨c.val, by omega⟩
def upper (c : Fin 256) : Fin 512 := ⟨256 + c.val, by omega⟩

theorem lower_pay (h : FVec Ideal S512x2048 .bf16) (w : Vec Ideal S2048x512 .bf16) (r : Fin 512) (c : Fin 256) :
    k0_pay8 (F := Ideal) h w (ix2 r c) = tile h w r (lower c) := by
  rw [← tile_pay]
  unfold k0_pay8
  generalize k0_pay7 (F := Ideal) h w = y
  pointwise [lower]

theorem value_pay (h : FVec Ideal S512x2048 .bf16) (w : Vec Ideal S2048x512 .bf16) (r : Fin 512) (c : Fin 256) :
    k0_pay14 (F := Ideal) (k0_pay7 (F := Ideal) h w) (ix2 r c) = tile h w r (upper c) := by
  rw [← tile_pay]
  unfold k0_pay14
  generalize k0_pay7 (F := Ideal) h w = y
  pointwise [upper]

theorem key_pay (h : FVec Ideal S512x2048 .bf16) (w : Vec Ideal S2048x512 .bf16) (g : Vec Ideal S1x256 .f32)
    (o : Vec Ideal S256x256 .bf16) (r : Fin 512) (c : Fin 256) :
    k0_pay13 (F := Ideal) (k0_pay8 (F := Ideal) h w) (k0_pay9 (F := Ideal) g) (k0_pay11 (F := Ideal) h w)
        (k0_pay12 (F := Ideal) h w) o (ix2 r c)
      = tileNormed (fun e => tile h w r (lower e)) (fun e => o (ix2 e c)) (tile h w r (lower c)) (g (ix2 0 c)) := by
  unfold tileNormed
  simp only [← lower_pay]
  unfold k0_pay13 k0_pay12 k0_pay11 k0_pay10 k0_pay9
  generalize k0_pay8 (F := Ideal) h w = y
  pointwise

end Cert.Proof.Projection

end

end
-- ==== Proof.ProjectionBlock.lean ====
/- What one grid point of the projection's kernel computes, from its input blocks. -/
module

public import proofs.«01_k».proof.Proof.ProjectionPays
public import Idealize.ShloMosaic.Lib.Pipeline.ValueKit
public import Idealize.ShloMosaic.Lib.WholeRead

@[expose] public section

set_option maxRecDepth 16384

noncomputable section

namespace Cert.Proof.Projection

open Cert.Kernel3Ideal Cert.Kernel3Ideal.Gen Idealize.ShloMosaic Idealize.ShloMosaic.TcCoe Idealize.SL.Sem

variable (c : Dev nD) (i : grid0.Coords)
  (arg1 : Memref sig .tc .vmem S512x2048 .f32) (harg1 : arg1.IsWhole)
  (arg2 : Memref sig .tc .vmem S1x2048 .f32) (harg2 : arg2.IsWhole)
  (arg3 : Memref sig .tc .vmem S2048x4608 .bf16) (harg3 : arg3.IsWhole)
  (arg4 : Memref sig .tc .vmem S1x512 .f32) (harg4 : arg4.IsWhole)
  (arg5 : Memref sig .tc .vmem S1x256 .f32) (harg5 : arg5.IsWhole)
  (arg6 : Memref sig .tc .vmem S512x512 .bf16) (harg6 : arg6.IsWhole)
  (arg7 : Memref sig .tc .vmem S512x4608 .bf16) (harg7 : arg7.IsWhole)
  (x0 : Vec Ideal S512x2048 .f32) (x1 : Vec Ideal S1x2048 .f32) (x2 : Vec Ideal S2048x4608 .bf16)
  (x3 : Vec Ideal S1x512 .f32) (x4 : Vec Ideal S1x256 .f32) (x5 : Vec Ideal S512x512 .bf16)

/-- The projection of row `r` of a block, in column `z`. -/
def blockProduct (r : Fin 512) (z : Fin 4608) : EReal :=
  product (fun d => x0 (ix2 r d)) (fun d => x1 (ix2 0 d)) (fun d => x2 (ix2 d z))

/-- Column `e` of the tile of 512 columns that column `z` lies in, and of the keys' 256 columns. -/
def tileCol (z : Fin 4608) (e : Fin 512) : Fin 4608 := ⟨512 * (z.val / 512) + e.val, by omega⟩
def keyCol (e : Fin 256) : Fin 4608 := ⟨1024 + e.val, by omega⟩

/-- One element of a grid point's result. -/
def blockOut (r : Fin 512) (z : Fin 4608) : EReal :=
  if z.val < 1024 then
    tileNormed (fun e => blockProduct x0 x1 x2 r (tileCol z e)) (fun e => x5 (ix2 e (⟨z.val % 512, by omega⟩ : Fin 512)))
      (blockProduct x0 x1 x2 r z) (x3 (ix2 0 (⟨z.val % 512, by omega⟩ : Fin 512)))
  else if h : z.val < 1280 then
    tileNormed (fun e => blockProduct x0 x1 x2 r (keyCol e))
      (fun e => x5 (ix2 (lower e) (lower (⟨z.val - 1024, by omega⟩ : Fin 256))))
      (blockProduct x0 x1 x2 r z) (x4 (ix2 0 (⟨z.val - 1024, by omega⟩ : Fin 256)))
  else blockProduct x0 x1 x2 r z

/-- The block's normalised rows, as the kernel reads and computes them. -/
def rows : FVec Ideal S512x2048 .bf16 :=
  k0_pay4 (F := Ideal)
    (View.readAt (Elt Ideal) arg1.view (Rect.unit (s := S512x2048) ![0, 0] S512x2048.size inb_S512x2048_S512x2048_0_0).toLoadRect (harg1.unread x0))
    (View.readAt (Elt Ideal) arg2.view (Rect.unit (s := S1x2048) ![0, 0] S1x2048.size inb_S1x2048_S1x2048_0_0).toLoadRect (harg2.unread x1))

theorem rows_at (r : Fin 512) (d : Fin 2048) : rows arg1 harg1 arg2 harg2 x0 x1 (ix2 r d)
    = mixed (fun d => x0 (ix2 r d)) (fun d => x1 (ix2 0 d)) d := by
  unfold rows
  refine (mixed_pay _ _ r d).trans (congrArg₂ (fun a b => mixed a b d) (funext fun y => ?_) (funext fun y => ?_))
  · rw [harg1.readAt_unread]
    refine congrArg x0 ?_
    funext a
    fin_cases a
    · exact Fin.ext (by show 0 + 1 * r.val = r.val; omega)
    · exact Fin.ext (by show 0 + 1 * y.val = y.val; omega)
  · rw [harg2.readAt_unread]
    refine congrArg x1 ?_
    funext a
    fin_cases a
    · rfl
    · exact Fin.ext (by show 0 + 1 * y.val = y.val; omega)

/-- A tile of the block's product, at the columns from `o` on. -/
theorem tile_at (o : ℕ) (inb : ∀ a, (![0, o] : Fin 2 → ℕ) a + S2048x512.size a ≤ S2048x4608.size a) (r e : Fin 512) (z : Fin 4608)
    (hz : z.val = o + e.val) :
    tile (rows arg1 harg1 arg2 harg2 x0 x1)
      (View.readAt (Elt Ideal) arg3.view (Rect.unit (s := S2048x4608) ![0, o] S2048x512.size inb).toLoadRect (harg3.unread x2)) r e
      = blockProduct x0 x1 x2 r z := by
  unfold tile blockProduct product
  refine Finset.sum_congr rfl fun d _ => congrArg₂ (· * ·) (rows_at _ _ _ _ _ _ r d) ?_
  rw [harg3.readAt_unread]
  refine congrArg x2 ?_
  funext a
  fin_cases a
  · exact Fin.ext (by show 0 + 1 * d.val = d.val; omega)
  · exact Fin.ext (by show o + 1 * e.val = z.val; omega)

/-- The values read of the scales and of the head pattern. -/
theorem qscale_at (e f : Fin 512) (h : f.val = e.val) :
    View.readAt (Elt Ideal) arg4.view (Rect.unit (s := S1x512) ![0, 0] S1x512.size inb_S1x512_S1x512_0_0).toLoadRect (harg4.unread x3)
      (ix2 0 e) = x3 (ix2 0 f) := by
  rw [harg4.readAt_unread]
  refine congrArg x3 ?_
  funext a
  fin_cases a
  · rfl
  · exact Fin.ext (by show 0 + 1 * e.val = f.val; omega)

theorem kscale_at (e f : Fin 256) (h : f.val = e.val) :
    View.readAt (Elt Ideal) arg5.view (Rect.unit (s := S1x256) ![0, 0] S1x256.size inb_S1x256_S1x256_0_0).toLoadRect (harg5.unread x4)
      (ix2 0 e) = x4 (ix2 0 f) := by
  rw [harg5.readAt_unread]
  refine congrArg x4 ?_
  funext a
  fin_cases a
  · rfl
  · exact Fin.ext (by show 0 + 1 * e.val = f.val; omega)

theorem pattern_at (e d f : Fin 512) (h : f.val = d.val) :
    View.readAt (Elt Ideal) arg6.view (Rect.unit (s := S512x512) ![0, 0] S512x512.size inb_S512x512_S512x512_0_0).toLoadRect (harg6.unread x5)
      (ix2 e d) = x5 (ix2 e f) := by
  rw [harg6.readAt_unread]
  refine congrArg x5 ?_
  funext a
  fin_cases a
  · exact Fin.ext (by show 0 + 1 * e.val = e.val; omega)
  · exact Fin.ext (by show 0 + 1 * d.val = f.val; omega)

theorem corner_at (e d : Fin 256) (f : Fin 512) (h : f.val = d.val) :
    View.readAt (Elt Ideal) arg6.view (Rect.unit (s := S512x512) ![0, 0] S256x256.size inb_S512x512_S256x256_0_0).toLoadRect (harg6.unread x5)
      (ix2 e d) = x5 (ix2 (lower e) f) := by
  rw [harg6.readAt_unread]
  refine congrArg x5 ?_
  funext a
  fin_cases a
  · exact Fin.ext (by show 0 + 1 * e.val = e.val; omega)
  · exact Fin.ext (by show 0 + 1 * d.val = f.val; omega)

/-- A tile of products stored as it is. -/
theorem plain_at (o : ℕ) (inb : ∀ a, (![0, o] : Fin 2 → ℕ) a + S2048x512.size a ≤ S2048x4608.size a) (r : Fin 512) (z : Fin 4608)
    (y : Fin 512) (h1 : z.val = o + y.val) (ho : 1280 ≤ o) :
    k0_pay1 (F := Ideal) (rows arg1 harg1 arg2 harg2 x0 x1)
      (View.readAt (Elt Ideal) arg3.view (Rect.unit (s := S2048x4608) ![0, o] S2048x512.size inb).toLoadRect (harg3.unread x2)) (ix2 r y)
      = blockOut x0 x1 x2 x3 x4 x5 r z := by
  rw [plain_pay, tile_at arg1 harg1 arg2 harg2 arg3 harg3 x0 x1 x2 o inb r y z h1]
  unfold blockOut
  rw [if_neg (by omega), dif_neg (by omega)]

/-- A tile of queries, each divided by its head's root mean square. -/
theorem query_at (o : ℕ) (inb : ∀ a, (![0, o] : Fin 2 → ℕ) a + S2048x512.size a ≤ S2048x4608.size a) (r : Fin 512) (z : Fin 4608)
    (y : Fin 512) (h1 : z.val = o + y.val) (ho : o + 512 ≤ 1024) (ho' : o = 512 * (o / 512)) :
    k0_pay6 (F := Ideal) (rows arg1 harg1 arg2 harg2 x0 x1)
      (View.readAt (Elt Ideal) arg3.view (Rect.unit (s := S2048x4608) ![0, o] S2048x512.size inb).toLoadRect (harg3.unread x2))
      (View.readAt (Elt Ideal) arg4.view (Rect.unit (s := S1x512) ![0, 0] S1x512.size inb_S1x512_S1x512_0_0).toLoadRect (harg4.unread x3))
      (View.readAt (Elt Ideal) arg6.view (Rect.unit (s := S512x512) ![0, 0] S512x512.size inb_S512x512_S512x512_0_0).toLoadRect (harg6.unread x5)) (ix2 r y)
      = blockOut x0 x1 x2 x3 x4 x5 r z := by
  have hy := y.isLt
  have hm : (⟨z.val % 512, by omega⟩ : Fin 512).val = y.val := by show z.val % 512 = _; omega
  rw [query_pay]
  unfold blockOut
  rw [if_pos (by omega), ← qscale_at arg4 harg4 x3 y _ hm, ← tile_at arg1 harg1 arg2 harg2 arg3 harg3 x0 x1 x2 o inb r y z h1]
  refine congrArg₂ (fun t p => tileNormed t p _ _) (funext fun e => ?_) (funext fun e => ?_)
  · exact tile_at arg1 harg1 arg2 harg2 arg3 harg3 x0 x1 x2 o inb r e _ (by show 512 * (z.val / 512) + e.val = o + e.val; omega)
  · exact pattern_at arg6 harg6 x5 e y _ hm

/-- The tile of keys, each divided by its head's root mean square. -/
theorem key_at (r : Fin 512) (z : Fin 4608) (y : Fin 256) (h1 : z.val = 1024 + y.val)
    (h : FVec Ideal S512x2048 .bf16) (w : Vec Ideal S2048x512 .bf16) (hh : h = rows arg1 harg1 arg2 harg2 x0 x1)
    (hw : w = View.readAt (Elt Ideal) arg3.view (Rect.unit (s := S2048x4608) ![0, 1024] S2048x512.size inb_S2048x4608_S2048x512_0_1024).toLoadRect (harg3.unread x2)) :
    k0_pay13 (F := Ideal) (k0_pay8 (F := Ideal) h w)
      (k0_pay9 (F := Ideal) (View.readAt (Elt Ideal) arg5.view (Rect.unit (s := S1x256) ![0, 0] S1x256.size inb_S1x256_S1x256_0_0).toLoadRect (harg5.unread x4)))
      (k0_pay11 (F := Ideal) h w) (k0_pay12 (F := Ideal) h w)
      (View.readAt (Elt Ideal) arg6.view (Rect.unit (s := S512x512) ![0, 0] S256x256.size inb_S512x512_S256x256_0_0).toLoadRect (harg6.unread x5)) (ix2 r y)
      = blockOut x0 x1 x2 x3 x4 x5 r z := by
  have hy := y.isLt
  have hm : (⟨z.val - 1024, by omega⟩ : Fin 256).val = y.val := by show z.val - 1024 = _; omega
  rw [key_pay, hh, hw]
  unfold blockOut
  rw [if_neg (by omega), dif_pos (by omega), ← kscale_at arg5 harg5 x4 y _ hm,
    ← tile_at arg1 harg1 arg2 harg2 arg3 harg3 x0 x1 x2 1024 inb_S2048x4608_S2048x512_0_1024 r (lower y) z h1]
  refine congrArg₂ (fun t p => tileNormed t p _ _) (funext fun e => ?_) (funext fun e => ?_)
  · exact tile_at arg1 harg1 arg2 harg2 arg3 harg3 x0 x1 x2 1024 _ r (lower e) _ rfl
  · exact corner_at arg6 harg6 x5 e y _ hm

/-- The tile of values. -/
theorem value_at (r : Fin 512) (z : Fin 4608) (y : Fin 256) (h1 : z.val = 1280 + y.val) :
    k0_pay14 (F := Ideal) (k0_pay7 (F := Ideal) (rows arg1 harg1 arg2 harg2 x0 x1)
      (View.readAt (Elt Ideal) arg3.view (Rect.unit (s := S2048x4608) ![0, 1024] S2048x512.size inb_S2048x4608_S2048x512_0_1024).toLoadRect (harg3.unread x2))) (ix2 r y)
      = blockOut x0 x1 x2 x3 x4 x5 r z := by
  rw [value_pay, tile_at arg1 harg1 arg2 harg2 arg3 harg3 x0 x1 x2 1024 _ r (upper y) z
    (by show z.val = 1024 + (256 + y.val); omega)]
  unfold blockOut
  rw [if_neg (by omega), dif_neg (by omega)]

/-- A grid point's output block. -/
theorem block_at (r : Fin 512) (z : Fin 4608) :
    out0_A_6 (F := Ideal) c i arg1 harg1 arg2 harg2 arg3 harg3 arg4 harg4 arg5 harg5 arg6 harg6 arg7 harg7 x0 x1 x2 x3 x4 x5 (ix2 r z)
      = blockOut x0 x1 x2 x3 x4 x5 r z := by
  unfold out0_A_6
  rw [View.read_writes_eq_canon _ _ _ (cover0_A_6 c i arg1 harg1 arg2 harg2 arg3 harg3 arg4 harg4 arg5 harg5 arg6 harg6 arg7 harg7
    x0 x1 x2 x3 x4 x5)]
  unfold kernelRun0_A
  dsimp only
  canon_tiles x e using (cover0_A_6 c i arg1 harg1 arg2 harg2 arg3 harg3 arg4 harg4 arg5 harg5 arg6 harg6 arg7 harg7 x0 x1 x2 x3 x4 x5 _)
  all_goals
    refine (congrArg _ (show x = ix2 r (x 1) from funext fun a => by
      match a with | ⟨0, _⟩ => exact Fin.ext (Eq.symm e0) | ⟨1, _⟩ => rfl)).trans ?_
  · exact plain_at arg1 harg1 arg2 harg2 arg3 harg3 x0 x1 x2 x3 x4 x5 4096 _ r z (x 1) e1 (by norm_num)
  · exact plain_at arg1 harg1 arg2 harg2 arg3 harg3 x0 x1 x2 x3 x4 x5 3584 _ r z (x 1) e1 (by norm_num)
  · exact plain_at arg1 harg1 arg2 harg2 arg3 harg3 x0 x1 x2 x3 x4 x5 3072 _ r z (x 1) e1 (by norm_num)
  · exact plain_at arg1 harg1 arg2 harg2 arg3 harg3 x0 x1 x2 x3 x4 x5 2560 _ r z (x 1) e1 (by norm_num)
  · exact plain_at arg1 harg1 arg2 harg2 arg3 harg3 x0 x1 x2 x3 x4 x5 2048 _ r z (x 1) e1 (by norm_num)
  · exact plain_at arg1 harg1 arg2 harg2 arg3 harg3 x0 x1 x2 x3 x4 x5 1536 _ r z (x 1) e1 (by norm_num)
  · exact value_at arg1 harg1 arg2 harg2 arg3 harg3 x0 x1 x2 x3 x4 x5 r z (x 1) e1
  · exact key_at arg1 harg1 arg2 harg2 arg3 harg3 arg5 harg5 arg6 harg6 x0 x1 x2 x3 x4 x5 r z (x 1) e1 _ _ rfl rfl
  · exact query_at arg1 harg1 arg2 harg2 arg3 harg3 arg4 harg4 arg6 harg6 x0 x1 x2 x3 x4 x5 512 _ r z (x 1) e1 (by norm_num) (by norm_num)
  · have e1 : z.val = 0 + (x 1).val := by rw [Nat.zero_add]; exact e1
    exact query_at arg1 harg1 arg2 harg2 arg3 harg3 arg4 harg4 arg6 harg6 x0 x1 x2 x3 x4 x5 0 _ r z (x 1) e1 (by norm_num) (by norm_num)

end Cert.Proof.Projection

end

end
-- ==== Proof.ProjectionArgs.lean ====
/- What the projection's prepared arguments hold when its call begins: the rows, the scales, the weights and the pattern that
   tells which columns share a head. -/
module

public import proofs.«01_k».proof.Proof.ProjectionBlock
public import Idealize.ShloMosaic.Lib.IdealHost
public import Mathlib.Tactic.IntervalCases

@[expose] public section

set_option maxRecDepth 16384

noncomputable section

namespace Cert.Proof.Projection

open Cert.Kernel3Ideal Cert.Kernel3Ideal.Gen Idealize.ShloMosaic Idealize.ShloMosaic.TcCoe Idealize.SL.Sem
open Idealize.ShloMosaic.Pipeline

/-- One where columns `a` and `b` lie in one head, zero elsewhere. -/
def patternAt (a b : ℕ) : EReal := if a / 64 = b / 64 then 1 else 0

/-- The identity's entry of row `a` and column `b`. -/
theorem unit_at (a b : ℕ) (ha : a < 8) (hb : b < 8) (i : Fin 64) (hi : i.val = a * 8 + b) :
    Ideal.ofBits .f32 (lit0 i) = if a = b then (1 : EReal) else 0 := by
  have key : lit0 i = if a = b then 1065353216#32 else 0#32 := by
    rw [show i = ⟨a * 8 + b, by omega⟩ from Fin.ext hi]
    interval_cases a <;> interval_cases b <;> rfl
  rw [key]
  split
  · exact Ideal.ofBits_one_f32
  · exact Ideal.ofBits_zero_f32

/-- The pattern as the host computes it, by groups of 64 rows and of 64 columns. -/
def patternTable : FVec Ideal S8x64x8x64 .f32 :=
  mulf (broadcastInDim S8x64x8x64 ![0, 1, 2, 3] bcast_S8x1x8x1_S8x64x8x64_0_1_2_3 (broadcastInDim S8x1x8x1 ![0, 2] bcast_S8x8_S8x1x8x1_0_2
      (fun i => FloatOps.ofBits (F := Ideal) .f32 (lit0 (S8x8.rowMajor i)))))
    (broadcastInDim S8x64x8x64 ![0, 1, 2, 3] bcast_S1x64x1x64_S8x64x8x64_0_1_2_3 (broadcastInDim S1x64x1x64 ![1, 3]
      bcast_S64x64_S1x64x1x64_1_3 (constant S64x64 FTy.f32 1065353216#32)))

theorem table_at (a b : Fin 8) (d e : Fin 64) :
    patternTable (ix4 a d b e) = Ideal.ofBits .f32 (lit0 (S8x8.rowMajor (ix2 a b))) := by
  have h : patternTable (ix4 a d b e)
      = Ideal.ofBits .f32 (lit0 (S8x8.rowMajor (ix2 a b))) * Ideal.ofBits .f32 1065353216#32 := by
    generalize ht : (fun i : S8x8.Idx => Ideal.ofBits .f32 (lit0 (S8x8.rowMajor i))) = t
    have ht' (i : S8x8.Idx) : Ideal.ofBits .f32 (lit0 (S8x8.rowMajor i)) = t i := congrFun ht i
    rw [ht']
    unfold patternTable
    show mulf (broadcastInDim S8x64x8x64 ![0, 1, 2, 3] bcast_S8x1x8x1_S8x64x8x64_0_1_2_3 (broadcastInDim S8x1x8x1 ![0, 2]
      bcast_S8x8_S8x1x8x1_0_2 (fun i : S8x8.Idx => Ideal.ofBits .f32 (lit0 (S8x8.rowMajor i))))) _ _ = _
    rw [ht]
    pointwise
  rw [h, Ideal.ofBits_one_f32, mul_one]

variable (m : (ℓ : Loc nD τ sig) → Buf (Elt Ideal) ℓ) (c : Dev nD)

/-- The batch and the position of row `r` of all the rows. -/
def batchOf (r : Fin 32768) : Fin 16 := ⟨r.val / 2048, by omega⟩
def posOf (r : Fin 32768) : Fin 2048 := ⟨r.val % 2048, by omega⟩

theorem rows_arg (r : Fin 32768) (d : Fin 2048) : (V m c main_v0 : S32768x2048.Idx → EReal) (ix2 r d)
    = (m ((c : Thread nD τ).loc main_arg0) : S16x2048x2048.Idx → EReal) (ix3 (batchOf r) (posOf r) d) := by
  simp only [V, hostOps0, hostOps0_1, hostOps0_2, List.flatten_cons, List.flatten_nil, List.append_nil, List.cons_append,
    List.nil_append]
  entry_read
  pointwise [batchOf, posOf]

theorem scale_arg (d : Fin 2048) : (V m c main_v15 : S1x2048.Idx → EReal) (ix2 0 d)
    = (m ((c : Thread nD τ).loc main_arg1) : S1x2048.Idx → EReal) (ix2 0 d) := by
  simp only [V, hostOps0, hostOps0_1, hostOps0_2, List.flatten_cons, List.flatten_nil, List.append_nil, List.cons_append,
    List.nil_append]
  entry_read
  pointwise

theorem weights_arg (d : Fin 2048) (z : Fin 4608) : (V m c main_v3 : S2048x4608.Idx → EReal) (ix2 d z)
    = (m ((c : Thread nD τ).loc main_arg2) : S1x2048x4608.Idx → EReal) (ix3 0 d z) := by
  simp only [V, hostOps0, hostOps0_1, hostOps0_2, List.flatten_cons, List.flatten_nil, List.append_nil, List.cons_append,
    List.nil_append]
  entry_read
  pointwise

theorem qscale_arg (z : Fin 512) : (V m c main_v10 : S1x512.Idx → EReal) (ix2 0 z)
    = (m ((c : Thread nD τ).loc main_arg3) : S1x64.Idx → EReal) (ix2 0 (⟨z.val % 64, by omega⟩ : Fin 64)) := by
  simp only [V, hostOps0, hostOps0_1, hostOps0_2, List.flatten_cons, List.flatten_nil, List.append_nil, List.cons_append,
    List.nil_append]
  entry_read
  pointwise

theorem kscale_arg (z : Fin 256) : (V m c main_v14 : S1x256.Idx → EReal) (ix2 0 z)
    = (m ((c : Thread nD τ).loc main_arg4) : S1x64.Idx → EReal) (ix2 0 (⟨z.val % 64, by omega⟩ : Fin 64)) := by
  simp only [V, hostOps0, hostOps0_1, hostOps0_2, List.flatten_cons, List.flatten_nil, List.append_nil, List.cons_append,
    List.nil_append]
  entry_read
  pointwise

theorem pattern_arg (e f : Fin 512) : (V m c main_v16 : S512x512.Idx → EReal) (ix2 e f) = patternAt e.val f.val := by
  simp only [V, hostOps0, hostOps0_1, hostOps0_2, List.flatten_cons, List.flatten_nil, List.append_nil, List.cons_append,
    List.nil_append]
  entry_read
  show shapeCast S512x512 patternTable _ _ = _
  refine Eq.trans (b := patternTable (ix4 (⟨e.val / 64, by omega⟩ : Fin 8) (⟨e.val % 64, by omega⟩ : Fin 64)
    (⟨f.val / 64, by omega⟩ : Fin 8) (⟨f.val % 64, by omega⟩ : Fin 64))) ?_ ?_
  · generalize patternTable = y
    pointwise
  · rw [table_at]
    exact unit_at (e.val / 64) (f.val / 64) (by omega) (by omega) _ (Shape.rowMajor_val_two _)

end Cert.Proof.Projection

end

end
-- ==== Proof.ProjectionArray.lean ====
/- The projection's result array: every element from the arrays the program is given. -/
module

public import proofs.«01_k».proof.Proof.ProjectionArgs

@[expose] public section

set_option maxRecDepth 16384

noncomputable section

namespace Cert.Proof.Projection

open Cert.Kernel3Ideal Cert.Kernel3Ideal.Gen Cert.Kernel3Ideal.Value Idealize.ShloMosaic Idealize.ShloMosaic.TcCoe Idealize.SL.Sem
open Idealize.ShloMosaic.Pipeline

/-- The projection of row `r`, in column `z`. -/
def rowProduct (X : S16x2048x2048.Idx → EReal) (g : S1x2048.Idx → EReal) (W : S1x2048x4608.Idx → EReal) (r : Fin 32768)
    (z : Fin 4608) : EReal :=
  product (fun d => X (ix3 (batchOf r) (posOf r) d)) (fun d => g (ix2 0 d)) (fun d => W (ix3 0 d z))

/-- One element of the kernel's result. -/
def kernelOut (X : S16x2048x2048.Idx → EReal) (g : S1x2048.Idx → EReal) (W : S1x2048x4608.Idx → EReal) (q k : S1x64.Idx → EReal)
    (r : Fin 32768) (z : Fin 4608) : EReal :=
  if z.val < 1024 then
    tileNormed (fun e => rowProduct X g W r (tileCol z e)) (fun e : Fin 512 => patternAt e.val (z.val % 512))
      (rowProduct X g W r z) (q (ix2 0 (inHead z)))
  else if z.val < 1280 then
    tileNormed (fun e => rowProduct X g W r (keyCol e)) (fun e : Fin 256 => patternAt e.val (z.val - 1024))
      (rowProduct X g W r z) (k (ix2 0 (inHead z)))
  else rowProduct X g W r z

/-- The block indices of the windows at a point. -/
theorem indices : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] := by decide +kernel

theorem covers6 : (cfg0.win 6).Covers := by decide +kernel

variable (m : (ℓ : Loc nD τ sig) → Buf (Elt Ideal) ℓ) (c : Dev nD)

/-- Row `r` of a grid point's block, among all the rows. -/
def pointRow (t : Fin cfg0.N) (r : Fin 512) : Fin 32768 :=
  ⟨512 * t.val + r.val, by have : t.val < 64 := lt_of_lt_of_eq t.isLt N_0; omega⟩

theorem rows_blk (t : Fin cfg0.N) (r : Fin 512) (d : Fin 2048) : (iblk m c 0 t : S512x2048.Idx → EReal) (ix2 r d)
    = (m ((c : Thread nD τ).loc main_arg0) : S16x2048x2048.Idx → EReal) (ix3 (batchOf (pointRow t r)) (posOf (pointRow t r)) d) := by
  obtain ⟨e0, -⟩ := indices t
  refine Eq.trans ?_ (rows_arg m c (pointRow t r) d)
  blk_ext [iblk, e0, pointRow]

theorem scale_blk (t : Fin cfg0.N) (d : Fin 2048) : (iblk m c 1 t : S1x2048.Idx → EReal) (ix2 0 d)
    = (m ((c : Thread nD τ).loc main_arg1) : S1x2048.Idx → EReal) (ix2 0 d) := by
  obtain ⟨-, e1, -⟩ := indices t
  refine Eq.trans ?_ (scale_arg m c d)
  blk_ext [iblk, e1]

theorem weights_blk (t : Fin cfg0.N) (d : Fin 2048) (z : Fin 4608) : (iblk m c 2 t : S2048x4608.Idx → EReal) (ix2 d z)
    = (m ((c : Thread nD τ).loc main_arg2) : S1x2048x4608.Idx → EReal) (ix3 0 d z) := by
  obtain ⟨-, -, e2, -⟩ := indices t
  refine Eq.trans ?_ (weights_arg m c d z)
  blk_ext [iblk, e2]

theorem qscale_blk (t : Fin cfg0.N) (z : Fin 512) : (iblk m c 3 t : S1x512.Idx → EReal) (ix2 0 z)
    = (m ((c : Thread nD τ).loc main_arg3) : S1x64.Idx → EReal) (ix2 0 (⟨z.val % 64, by omega⟩ : Fin 64)) := by
  obtain ⟨-, -, -, e3, -⟩ := indices t
  refine Eq.trans ?_ (qscale_arg m c z)
  blk_ext [iblk, e3]

theorem kscale_blk (t : Fin cfg0.N) (z : Fin 256) : (iblk m c 4 t : S1x256.Idx → EReal) (ix2 0 z)
    = (m ((c : Thread nD τ).loc main_arg4) : S1x64.Idx → EReal) (ix2 0 (⟨z.val % 64, by omega⟩ : Fin 64)) := by
  obtain ⟨-, -, -, -, e4, -⟩ := indices t
  refine Eq.trans ?_ (kscale_arg m c z)
  blk_ext [iblk, e4]

theorem pattern_blk (t : Fin cfg0.N) (e f : Fin 512) : (iblk m c 5 t : S512x512.Idx → EReal) (ix2 e f) = patternAt e.val f.val := by
  obtain ⟨-, -, -, -, -, e5, -⟩ := indices t
  refine Eq.trans ?_ (pattern_arg m c e f)
  blk_ext [iblk, e5]

theorem product_blk (t : Fin cfg0.N) (r : Fin 512) (z : Fin 4608) :
    blockProduct (iblk m c 0 t) (iblk m c 1 t) (iblk m c 2 t) r z
      = rowProduct (m ((c : Thread nD τ).loc main_arg0)) (m ((c : Thread nD τ).loc main_arg1)) (m ((c : Thread nD τ).loc main_arg2))
          (pointRow t r) z := by
  unfold blockProduct rowProduct
  rw [show (fun d => (iblk m c 0 t : S512x2048.Idx → EReal) (ix2 r d)) = _ from funext fun d => rows_blk m c t r d,
    show (fun d => (iblk m c 1 t : S1x2048.Idx → EReal) (ix2 0 d)) = _ from funext fun d => scale_blk m c t d,
    show (fun d => (iblk m c 2 t : S2048x4608.Idx → EReal) (ix2 d z)) = _ from funext fun d => weights_blk m c t d z]

/-- What a grid point computes, from the arrays the program is given. -/
theorem point_at (t : Fin cfg0.N) (r : Fin 512) (z : Fin 4608) :
    (outsAt0 m c t : S512x4608.Idx → EReal) (ix2 r z)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (pointRow t r) z := by
  unfold outsAt0
  rw [block_at]
  unfold blockOut kernelOut
  simp only [product_blk]
  by_cases h1 : z.val < 1024
  · rw [if_pos h1, if_pos h1, qscale_blk]
    refine congrArg₂ (fun p g => tileNormed _ p _ g) (funext fun e => pattern_blk m c t e _) (congrArg _ (congrArg (ix2 0) (Fin.ext ?_)))
    show z.val % 512 % 64 = z.val % 64
    omega
  · rw [if_neg h1, if_neg h1]
    by_cases h2 : z.val < 1280
    · rw [dif_pos h2, if_pos h2, kscale_blk]
      refine congrArg₂ (fun p g => tileNormed _ p _ g) (funext fun e => pattern_blk m c t (lower e) _)
        (congrArg _ (congrArg (ix2 0) (Fin.ext ?_)))
      show (z.val - 1024) % 64 = z.val % 64
      omega
    · rw [dif_neg h2, if_neg h2]

/-- The kernel's result array. -/
theorem kernel_array : (dats m 0 c).arrAt 6 cfg0.N = fun y : S32768x4608.Idx =>
    kernelOut (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) := by
  refine (dats m 0 c).arrAt_eq_of_covers 6 _ covers6 fun t hf y => ?_
  obtain ⟨-, -, -, -, -, -, e6⟩ := indices t
  blk_simp
  rw [after0_6]
  have h0 : (win0_6.blk t).view.emb y 0 = pointRow t (y 0) := Fin.ext (by
    blk_simp; rw [e6]; show t.val * 512 + (y 0).val = 512 * t.val + (y 0).val; omega)
  have h1 : (win0_6.blk t).view.emb y 1 = y 1 := Fin.ext (by
    blk_simp; rw [e6]; show 0 * 4608 + (y 1).val = (y 1).val; omega)
  rw [h0, h1]
  refine Eq.trans (congrArg (outsAt0 m c t : S512x4608.Idx → EReal) (a₂ := ix2 (y 0) (y 1)) ?_) (point_at m c t (y 0) (y 1))
  funext a
  fin_cases a
  · rfl
  · rfl

end Cert.Proof.Projection

end

end
-- ==== Proof.ProjectionReference.lean ====
/- The projection's reference: every element from the arrays the program is given. -/
module

public import proofs.«01_k».proof.Proof.ProjectionSpec
public import proofs.«01_k».proof.Proof.Gen.Reference3Ideal.Read
public import Idealize.ShloMosaic.Lib.IdealHost

@[expose] public section

set_option maxRecDepth 16384

noncomputable section

namespace Cert.Proof.Projection.Ref

open Cert.Reference3Ideal Cert.Reference3Ideal.Gen Cert.Reference3Ideal.Read Idealize.ShloMosaic Idealize.ShloMosaic.TcCoe
open Idealize.SL.Sem Idealize.ShloMosaic.StableHlo

variable (X : S16x2048x2048.Idx → EReal) (g : S1x2048.Idx → EReal) (W : S1x2048x4608.Idx → EReal) (q k : S1x64.Idx → EReal)

/-- The sum of a row's squares. -/
theorem squares_at (b : Fin 16) (t : Fin 2048) :
    val_main_v2 (F := Ideal) X (ix2 b t) = ∑ e : Fin 2048, X (ix3 b t e) * X (ix3 b t e) := by
  rw [val_main_v2_apply, val_main_cst_apply]
  refine (congrArg (· + _) Ideal.ofBits_zero_f32).trans ((zero_add _).trans (Finset.sum_congr rfl fun e _ => ?_))
  rw [val_main_v1_apply, show idx_main_v2 (ix2 b t) e = ix3 b t e from funext fun a => by
    match a with | ⟨0, _⟩ => rfl | ⟨1, _⟩ => rfl | ⟨2, _⟩ => rfl]
  rfl

/-- A normalised row. -/
theorem mixed_at (b : Fin 16) (t : Fin 2048) (d : Fin 2048) : val_main_v13 (F := Ideal) X g (ix3 b t d)
    = mixed (fun e => X (ix3 b t e)) (fun e => g (ix2 0 e)) d := by
  unfold mixed
  rw [← squares_at]
  unfold val_main_v13 val_main_v12 val_main_v11 val_main_v10 val_main_v9 val_main_v8 val_main_v7 val_main_v6 val_main_v5 val_main_v4
    val_main_v3 val_main_v0 val_main_cst_0 val_main_cst_1
  generalize val_main_v2 (F := Ideal) X = y
  pointwise

/-- A row's product with a column of weights. -/
theorem product_at (b : Fin 16) (t : Fin 2048) (z : Fin 4608) : val_main_v15 (F := Ideal) X g W (ix3 b t z)
    = product (fun e => X (ix3 b t e)) (fun e => g (ix2 0 e)) (fun e => W (ix3 0 e z)) := by
  unfold product
  simp only [← mixed_at]
  unfold val_main_v15 val_main_v14
  generalize val_main_v13 (F := Ideal) X g = y
  pointwise

/-- Column `d` of the query head `h`, and of the key head `j`. -/
def queryCol (h : Fin 16) (d : Fin 64) : Fin 4608 := ⟨64 * h.val + d.val, by omega⟩
def keyCol (j : Fin 4) (d : Fin 64) : Fin 4608 := ⟨1024 + (64 * j.val + d.val), by omega⟩

theorem query_at (b : Fin 16) (t : Fin 2048) (h : Fin 16) (d : Fin 64) : val_main_v17 (F := Ideal) X g W (ix4 b t h d)
    = val_main_v15 (F := Ideal) X g W (ix3 b t (queryCol h d)) := by
  unfold val_main_v17 val_main_v16
  generalize val_main_v15 (F := Ideal) X g W = y
  pointwise [queryCol]
  refine congrArg y (congrArg (ix3 b t) (Fin.ext ?_))
  dsimp only
  omega

theorem key_at (b : Fin 16) (t : Fin 2048) (j : Fin 4) (d : Fin 64) : val_main_v34 (F := Ideal) X g W (ix4 b t j d)
    = val_main_v15 (F := Ideal) X g W (ix3 b t (keyCol j d)) := by
  unfold val_main_v34 val_main_v33
  generalize val_main_v15 (F := Ideal) X g W = y
  pointwise [keyCol]
  refine congrArg y (congrArg (ix3 b t) (Fin.ext ?_))
  dsimp only
  omega

/-- The sum of the squares of a head's queries, and of a head's keys. -/
theorem querySquares_at (b : Fin 16) (t : Fin 2048) (h : Fin 16) : val_main_v20 (F := Ideal) X g W (ix3 b t h)
    = ∑ e : Fin 64, val_main_v17 (F := Ideal) X g W (ix4 b t h e) * val_main_v17 (F := Ideal) X g W (ix4 b t h e) := by
  rw [val_main_v20_apply, val_main_cst_2_apply]
  refine (congrArg (· + _) Ideal.ofBits_zero_f32).trans ((zero_add _).trans (Finset.sum_congr rfl fun e _ => ?_))
  rw [val_main_v19_apply, show idx_main_v20 (ix3 b t h) e = ix4 b t h e from funext fun a => by
    match a with | ⟨0, _⟩ => rfl | ⟨1, _⟩ => rfl | ⟨2, _⟩ => rfl | ⟨3, _⟩ => rfl]
  rfl

theorem keySquares_at (b : Fin 16) (t : Fin 2048) (j : Fin 4) : val_main_v37 (F := Ideal) X g W (ix3 b t j)
    = ∑ e : Fin 64, val_main_v34 (F := Ideal) X g W (ix4 b t j e) * val_main_v34 (F := Ideal) X g W (ix4 b t j e) := by
  rw [val_main_v37_apply, val_main_cst_5_apply]
  refine (congrArg (· + _) Ideal.ofBits_zero_f32).trans ((zero_add _).trans (Finset.sum_congr rfl fun e _ => ?_))
  rw [val_main_v36_apply, show idx_main_v37 (ix3 b t j) e = ix4 b t j e from funext fun a => by
    match a with | ⟨0, _⟩ => rfl | ⟨1, _⟩ => rfl | ⟨2, _⟩ => rfl | ⟨3, _⟩ => rfl]
  rfl

/-- A head's queries divided by their root mean square. -/
theorem normedQuery_at (b : Fin 16) (t : Fin 2048) (h : Fin 16) (d : Fin 64) : val_main_v31 (F := Ideal) X g W q (ix4 b t h d)
    = headNormed (fun e => val_main_v17 (F := Ideal) X g W (ix4 b t h e)) (fun e => q (ix2 0 e)) d := by
  unfold headNormed
  rw [← querySquares_at]
  unfold val_main_v31 val_main_v30 val_main_v29 val_main_v28 val_main_v27 val_main_v26 val_main_v25 val_main_v24 val_main_v23
    val_main_v22 val_main_v21 val_main_v18 val_main_cst_3 val_main_cst_4
  generalize val_main_v20 (F := Ideal) X g W = y
  generalize val_main_v17 (F := Ideal) X g W = u
  pointwise

/-- A head's keys divided by their root mean square. -/
theorem normedKey_at (b : Fin 16) (t : Fin 2048) (j : Fin 4) (d : Fin 64) : val_main_v48 (F := Ideal) X g W k (ix4 b t j d)
    = headNormed (fun e => val_main_v34 (F := Ideal) X g W (ix4 b t j e)) (fun e => k (ix2 0 e)) d := by
  unfold headNormed
  rw [← keySquares_at]
  unfold val_main_v48 val_main_v47 val_main_v46 val_main_v45 val_main_v44 val_main_v43 val_main_v42 val_main_v41 val_main_v40
    val_main_v39 val_main_v38 val_main_v35 val_main_cst_6 val_main_cst_7
  generalize val_main_v37 (F := Ideal) X g W = y
  generalize val_main_v34 (F := Ideal) X g W = u
  pointwise

theorem queries_at (b : Fin 16) (t : Fin 2048) (x : Fin 1024) : val_main_v32 (F := Ideal) X g W q (ix3 b t x)
    = val_main_v31 (F := Ideal) X g W q (ix4 b t (⟨x.val / 64, by omega⟩ : Fin 16) (⟨x.val % 64, by omega⟩ : Fin 64)) := by
  unfold val_main_v32
  generalize val_main_v31 (F := Ideal) X g W q = y
  pointwise

theorem keys_at (b : Fin 16) (t : Fin 2048) (x : Fin 256) : val_main_v49 (F := Ideal) X g W k (ix3 b t x)
    = val_main_v48 (F := Ideal) X g W k (ix4 b t (⟨x.val / 64, by omega⟩ : Fin 4) (⟨x.val % 64, by omega⟩ : Fin 64)) := by
  unfold val_main_v49
  generalize val_main_v48 (F := Ideal) X g W k = y
  pointwise

theorem rest_at (b : Fin 16) (t : Fin 2048) (x : Fin 3328) : val_main_v50 (F := Ideal) X g W (ix3 b t x)
    = val_main_v15 (F := Ideal) X g W (ix3 b t (⟨1280 + x.val, by omega⟩ : Fin 4608)) := by
  unfold val_main_v50
  generalize val_main_v15 (F := Ideal) X g W = y
  pointwise

/-- The three parts of a row joined. -/
theorem joined_query (b : Fin 16) (t : Fin 2048) (z : Fin 4608) (x : Fin 1024) (h : z.val = x.val) :
    val_main_v51 (F := Ideal) X g W q k (ix3 b t z) = val_main_v32 (F := Ideal) X g W q (ix3 b t x) := by
  unfold val_main_v51
  generalize val_main_v32 (F := Ideal) X g W q = u
  generalize val_main_v49 (F := Ideal) X g W k = v
  generalize val_main_v50 (F := Ideal) X g W = w
  refine concatenate_apply_piece (t := S16x2048x4608) 2 _ _ _ 0 (by show 0 < 3; omega) S16x2048x1024 u rfl rfl 0 rfl (ix3 b t x)
    (fun a ha => ?_) ?_
  · match a with
    | ⟨0, _⟩ => rfl
    | ⟨1, _⟩ => rfl
    | ⟨2, _⟩ => exact absurd rfl ha
  · show 0 + x.val = z.val
    omega

theorem joined_key (b : Fin 16) (t : Fin 2048) (z : Fin 4608) (x : Fin 256) (h : z.val = 1024 + x.val) :
    val_main_v51 (F := Ideal) X g W q k (ix3 b t z) = val_main_v49 (F := Ideal) X g W k (ix3 b t x) := by
  unfold val_main_v51
  generalize val_main_v32 (F := Ideal) X g W q = u
  generalize val_main_v49 (F := Ideal) X g W k = v
  generalize val_main_v50 (F := Ideal) X g W = w
  refine concatenate_apply_piece (t := S16x2048x4608) 2 _ _ _ 1 (by show 1 < 3; omega) S16x2048x256 v rfl rfl 1024 rfl (ix3 b t x)
    (fun a ha => ?_) ?_
  · match a with
    | ⟨0, _⟩ => rfl
    | ⟨1, _⟩ => rfl
    | ⟨2, _⟩ => exact absurd rfl ha
  · show 1024 + x.val = z.val
    omega

theorem joined_rest (b : Fin 16) (t : Fin 2048) (z : Fin 4608) (x : Fin 3328) (h : z.val = 1280 + x.val) :
    val_main_v51 (F := Ideal) X g W q k (ix3 b t z) = val_main_v50 (F := Ideal) X g W (ix3 b t x) := by
  unfold val_main_v51
  generalize val_main_v32 (F := Ideal) X g W q = u
  generalize val_main_v49 (F := Ideal) X g W k = v
  generalize val_main_v50 (F := Ideal) X g W = w
  refine concatenate_apply_piece (t := S16x2048x4608) 2 _ _ _ 2 (by show 2 < 3; omega) S16x2048x3328 w rfl rfl 1280 rfl (ix3 b t x)
    (fun a ha => ?_) ?_
  · match a with
    | ⟨0, _⟩ => rfl
    | ⟨1, _⟩ => rfl
    | ⟨2, _⟩ => exact absurd rfl ha
  · show 1280 + x.val = z.val
    omega

/-- A row of the reference's result, before the rows of the batches are joined. -/
theorem finished_at (b : Fin 16) (t : Fin 2048) (z : Fin 4608) : val_main_v51 (F := Ideal) X g W q k (ix3 b t z)
    = finished (fun y => product (fun e => X (ix3 b t e)) (fun e => g (ix2 0 e)) (fun e => W (ix3 0 e y)))
        (fun e => q (ix2 0 e)) (fun e => k (ix2 0 e)) z := by
  simp only [← product_at]
  unfold finished
  by_cases h1 : z.val < 1024
  · rw [if_pos h1, joined_query X g W q k b t z ⟨z.val, h1⟩ rfl, queries_at, normedQuery_at]
    refine congrArg₂ (fun a d => headNormed a _ d) (funext fun e => ?_) rfl
    rw [query_at]
    rfl
  · rw [if_neg h1]
    by_cases h2 : z.val < 1280
    · rw [if_pos h2, joined_key X g W q k b t z ⟨z.val - 1024, by omega⟩ (by show z.val = 1024 + (z.val - 1024); omega), keys_at,
        normedKey_at]
      refine congrArg₂ (fun a d => headNormed a _ d) (funext fun e => ?_) (Fin.ext ?_)
      · rw [key_at]
        refine congrArg _ (congrArg (ix3 b t) (Fin.ext ?_))
        show 1024 + (64 * ((z.val - 1024) / 64) + e.val) = 64 * (z.val / 64) + e.val
        omega
      · show (z.val - 1024) % 64 = z.val % 64
        omega
    · rw [if_neg h2, joined_rest X g W q k b t z ⟨z.val - 1280, by omega⟩ (by show z.val = 1280 + (z.val - 1280); omega), rest_at]
      refine congrArg _ (congrArg (ix3 b t) (Fin.ext ?_))
      show 1280 + (z.val - 1280) = z.val
      omega

/-- The reference's result. -/
theorem reference_at (r : Fin 32768) (z : Fin 4608) : val_main_v53 (F := Ideal) X g W q k (ix2 r z)
    = finished (fun y => product (fun e => X (ix3 (⟨r.val / 2048, by omega⟩ : Fin 16) (⟨r.val % 2048, by omega⟩ : Fin 2048) e))
        (fun e => g (ix2 0 e)) (fun e => W (ix3 0 e y))) (fun e => q (ix2 0 e)) (fun e => k (ix2 0 e)) z := by
  refine Eq.trans ?_ (finished_at X g W q k _ _ z)
  unfold val_main_v53 val_main_v52
  generalize val_main_v51 (F := Ideal) X g W q k = y
  pointwise

end Cert.Proof.Projection.Ref

end

end
-- ==== Proof.Spec.lean ====
/- The attention in plain terms: one row's softmax with a sink, its product with the values, and the norm of a row. -/
module

public import Idealize.ShloMosaic.Lib.Pointwise

@[expose] public section

noncomputable section

namespace Cert.Proof

open Idealize.ShloMosaic

/-- The largest of a row's scores and the sink. -/
def rowMax (s : Fin 384 → EReal) (sink : EReal) : EReal := max (Finset.fold max ⊥ s Finset.univ) sink

/-- What a row's exponentials sum to, the sink's included. -/
def rowSum (s : Fin 384 → EReal) (sink : EReal) : EReal :=
  ∑ x, Ideal.exp (s x - rowMax s sink) + Ideal.exp (sink - rowMax s sink)

/-- The probability of column `n` of a row of scores with a sink. -/
def weight (s : Fin 384 → EReal) (sink : EReal) (n : Fin 384) : EReal :=
  Ideal.div (Ideal.exp (s n - rowMax s sink)) (rowSum s sink)

/-- One element of the attention: a row's probabilities times a column of values. -/
def attend (s v : Fin 384 → EReal) (sink : EReal) : EReal := ∑ n, weight s sink n * v n

/-- A row divided by its root mean square and scaled. -/
def normed (a g : Fin 1024 → EReal) (c : Fin 1024) : EReal :=
  a c * Ideal.rsqrt (Ideal.div (∑ x, a x * a x) (Ideal.ofBits .f32 1149239296#32) + Ideal.ofBits .f32 897988541#32) * g c

theorem negInf_eq : Ideal.ofBits .f32 4286578688#32 = (⊥ : EReal) := by
  simp [Ideal.ofBits, Ideal.ieee]

end Cert.Proof

end

end
-- ==== Proof.Scalars.lean ====
/- The scalars of the attention: its constants as real numbers, the slope of a head's bias, and distances of positions
   computed on 32-bit words. -/
module

public import proofs.«01_k».proof.Proof.Spec
public import Idealize.ShloMosaic.Lib.IdealHost
public import Idealize.ShloMosaic.Lib.WordCmp

@[expose] public section

noncomputable section

namespace Cert.Proof

open Idealize.ShloMosaic

theorem eighth_bf16 : Ideal.ofBits .bf16 15872#16 = ((1 / 8 : ℝ) : EReal) := by
  simp [Ideal.ofBits, Ideal.ieee]; norm_num [zpow_neg]; rw [← EReal.coe_mul]; norm_num
theorem eighth_f32 : Ideal.ofBits .f32 1040187392#32 = ((1 / 8 : ℝ) : EReal) := by
  simp [Ideal.ofBits, Ideal.ieee]; norm_num [zpow_neg]; rw [← EReal.coe_mul]; norm_num
theorem half_f32 : Ideal.ofBits .f32 1056964608#32 = ((1 / 2 : ℝ) : EReal) := by
  simp [Ideal.ofBits, Ideal.ieee]; norm_num [zpow_neg]; rw [← EReal.coe_mul]; norm_num
theorem sixteen_f32 : Ideal.ofBits .f32 1098907648#32 = ((16 : ℝ) : EReal) := by
  simp [Ideal.ofBits, Ideal.ieee]; norm_num [zpow_neg]; rw [← EReal.coe_mul]; norm_num
theorem neg_eight_f32 : Ideal.ofBits .f32 3238002688#32 = ((-8 : ℝ) : EReal) := by
  simp [Ideal.ofBits, Ideal.ieee]; norm_num [zpow_neg]; rw [← EReal.coe_mul]; norm_num
theorem one_f32 : Ideal.ofBits .f32 1065353216#32 = ((1 : ℝ) : EReal) := by
  simp [Ideal.ofBits, Ideal.ieee]; norm_num [zpow_neg]; rw [← EReal.coe_mul]; norm_num
theorem posInf_f32 : Ideal.ofBits .f32 2139095040#32 = (⊤ : EReal) := by
  simp [Ideal.ofBits, Ideal.ieee]
theorem ln2_real : ∃ r : ℝ, Ideal.ofBits .f32 1060205080#32 = (r : EReal) := by
  simp [Ideal.ofBits, Ideal.ieee]
  exact ⟨_, (EReal.coe_mul _ _).symm⟩

/-- The slope of head `h`'s bias: the `h + 1`-th power of two to the minus one half. -/
def slope (h : Fin 16) : EReal := Ideal.exp (Ideal.ofBits .f32 1060205080#32 * ((-((h.val : ℝ) + 1) / 2 : ℝ) : EReal))

theorem slope_real (h : Fin 16) : ∃ r : ℝ, slope h = (r : EReal) := by
  obtain ⟨r, hr⟩ := ln2_real
  refine ⟨Real.exp (r * (-((h.val : ℝ) + 1) / 2)), ?_⟩
  unfold slope
  rw [hr, ← EReal.coe_mul, Ideal.exp_coe]

/-- The slope as a head's index scaled, then shifted. -/
theorem slope_shifted (h : Fin 16) :
    Ideal.exp (Ideal.ofBits .f32 1060205080#32 * (Ideal.div (Ideal.ofBits .f32 3238002688#32 * ((h.val : ℝ) : EReal))
      (Ideal.ofBits .f32 1098907648#32) - Ideal.ofBits .f32 1056964608#32)) = slope h := by
  unfold slope
  rw [neg_eight_f32, sixteen_f32, half_f32, Ideal.div_coe (by norm_num), ← EReal.coe_mul, ← EReal.coe_mul, ← EReal.coe_sub]
  refine congrArg (fun x : ℝ => Ideal.exp (Ideal.ofBits .f32 1060205080#32 * (x : EReal))) ?_
  ring

/-- The slope as a head's number, counted from one, scaled. -/
theorem slope_counted (h : Fin 16) :
    Ideal.exp (Ideal.ofBits .f32 1060205080#32 * Ideal.div (Ideal.ofBits .f32 3238002688#32 *
      (Ideal.ofBits .f32 1065353216#32 + ((h.val : ℝ) : EReal))) (Ideal.ofBits .f32 1098907648#32)) = slope h := by
  unfold slope
  rw [neg_eight_f32, sixteen_f32, one_f32, Ideal.div_coe (by norm_num), ← EReal.coe_add, ← EReal.coe_mul, ← EReal.coe_mul]
  refine congrArg (fun x : ℝ => Ideal.exp (Ideal.ofBits .f32 1060205080#32 * (x : EReal))) ?_
  ring

/-- The bias at distance `z` in head `h`: minus the slope times the distance inside the window, minus infinity outside. -/
def biasAt (h : Fin 16) (z : ℤ) : EReal := if |z| ≤ 128 then -(slope h) * ((|z| : ℤ) : ℝ) else ⊥

/-- The absolute value of a word that holds a small integer. -/
theorem absi_ofInt (z : ℤ) (hz : |z| < 2 ^ 31) : (IntOp.absi (BitVec.ofInt 32 z)).toInt = |z| := by
  have hz' := abs_lt.mp hz
  have ht : (BitVec.ofInt 32 z).toInt = z := by
    rw [BitVec.toInt_ofInt, Int.bmod_eq_of_le] <;> omega
  unfold IntOp.absi
  rw [BitVec.msb_eq_toInt, ht]
  by_cases h : z < 0
  · rw [if_pos (by simpa using h), ← BitVec.ofInt_neg, BitVec.toInt_ofInt, Int.bmod_eq_of_le, abs_of_neg h] <;> omega
  · rw [if_neg (by simpa using h), ht, abs_of_nonneg (by omega)]

/-- A word of a small natural number, read as an integer. -/
theorem toInt_word (k : ℕ) (hk : k < 2 ^ 31) : (BitVec.ofNat 32 k).toInt = (k : ℤ) := by
  rw [BitVec.toInt_ofNat', Int.bmod_eq_of_le] <;> omega

/-- The difference of two words of natural numbers. -/
theorem sub_words (a b : ℕ) : BitVec.ofNat 32 a - BitVec.ofNat 32 b = BitVec.ofInt 32 ((a : ℤ) - b) := by
  rw [Int.sub_eq_add_neg, BitVec.ofInt_add, BitVec.ofInt_neg, BitVec.sub_eq_add_neg]
  rfl

/-- The number a small natural number's word becomes. -/
theorem sitofp_word (k : ℕ) (hk : k < 2 ^ 31) : FloatOps.sitofp (F := Ideal) .f32 (BitVec.ofNat 32 k) = ((k : ℝ) : EReal) := by
  show ((((BitVec.ofNat 32 k).toInt : ℤ) : ℝ) : EReal) = _
  rw [toInt_word k hk]
  rfl

end Cert.Proof

end

end
-- ==== Proof.Finite.lean ====
/- The precondition read back: every query, key and sink is a real number. -/
module

public import proofs.«01_k».proof.Pre_finite_scores
public import proofs.«01_k».proof.Proof.Scalars
public import Idealize.ShloMosaic.Lib.ReduceAll

@[expose] public section

set_option maxRecDepth 16384

noncomputable section

namespace Cert.Proof.Finite

open Cert.Pre_finite_scores Idealize.ShloMosaic

/-- The side conditions of the precondition's operations. -/
theorem facts : Facts where
  slices_S16x2048x4608_S16x2048x1280_0_0_0 := by decide
  bitsLt_bf16_f32 := by decide
  bcast_S_S16x2048x1280 := by decide
  reducesTo_S16x2048x1280_S_d0_1_2 := by decide
  h_S_ := by decide
  bcast_S_S1x16 := by decide
  reducesTo_S1x16_S_d0_1 := by decide

instance : Subsingleton S_.Idx := ⟨fun a b => funext fun i => i.elim0⟩

theorem real_of_abs (x : EReal) (h : Ideal.cmp .olt (max x (-x)) (Ideal.ofBits .f32 2139095040#32) = 1#1) : ∃ r : ℝ, x = r := by
  rw [posInf_f32] at h
  have h1 : max x (-x) < ⊤ := by
    by_contra hc
    simp [Ideal.cmp, hc] at h
  induction x with
  | bot => simp at h1
  | top => simp at h1
  | coe r => exact ⟨r, rfl⟩

variable [Facts]
open Facts

/-- What the precondition says of every element of the projections' first 1280 columns and of every sink. -/
theorem reals_of_pre (X : S16x2048x4608.Idx → EReal) (K : S1x16.Idx → EReal) (g : S1x1024.Idx → EReal)
    (h : fn (F := Ideal) X K g = fun _ => 1#1) :
    (∀ b t (x : Fin 4608), x.val < 1280 → ∃ r : ℝ, X (ix3 b t x) = r) ∧ ∀ n, ∃ r : ℝ, K (ix2 0 n) = r := by
  have h0 := IntOp.andi_eq_one.mp (congrFun h ix0)
  refine ⟨fun b t x hx => ?_, fun n => ?_⟩
  · have h1 := Host.reduce_andi_all _ _ _ _ _ h0.1 (ix3 b t (⟨x.val, hx⟩ : Fin 1280))
    refine real_of_abs _ ?_
    rw [← h1]
    pointwise
    rfl
  · have h1 := Host.reduce_andi_all _ _ _ _ _ h0.2 (ix2 (0 : Fin 1) n)
    refine real_of_abs _ ?_
    rw [← h1]
    pointwise
    rfl

end Cert.Proof.Finite

end

end
-- ==== Proof.ProjectionFinite.lean ====
/- The projection's precondition read back: every scale and every weight of the queries' and keys' columns is a real number. -/
module

public import proofs.«01_k».proof.Pre_finite_projection
public import proofs.«01_k».proof.Proof.Finite

@[expose] public section

set_option maxRecDepth 16384

noncomputable section

namespace Cert.Proof.Projection

open Cert.Pre_finite_projection Idealize.ShloMosaic

/-- The side conditions of the precondition's operations. -/
theorem preFacts : Facts where
  bcast_S_S1x2048 := by decide
  reducesTo_S1x2048_S_d0_1 := by decide
  h_S_ := by decide
  slices_S1x2048x4608_S1x2048x1280_0_0_0 := by decide
  bcast_S_S1x2048x1280 := by decide
  reducesTo_S1x2048x1280_S_d0_1_2 := by decide

instance : Subsingleton S_.Idx := ⟨fun a b => funext fun i => i.elim0⟩

variable [Facts]
open Facts

/-- What the precondition says of every scale and of every weight of the first 1280 columns. -/
theorem reals_of_pre (X : S16x2048x2048.Idx → EReal) (g : S1x2048.Idx → EReal) (W : S1x2048x4608.Idx → EReal) (q k : S1x64.Idx → EReal)
    (h : fn (F := Ideal) X g W q k = fun _ => 1#1) :
    (∀ d, ∃ r : ℝ, g (ix2 0 d) = r) ∧ ∀ d (z : Fin 4608), z.val < 1280 → ∃ r : ℝ, W (ix3 0 d z) = r := by
  have h0 := IntOp.andi_eq_one.mp (congrFun h ix0)
  refine ⟨fun d => ?_, fun d z hz => ?_⟩
  · have h1 := Host.reduce_andi_all _ _ _ _ _ h0.1 (ix2 (0 : Fin 1) d)
    refine Finite.real_of_abs _ ?_
    rw [← h1]
    pointwise
    rfl
  · have h1 := Host.reduce_andi_all _ _ _ _ _ h0.2 (ix3 (0 : Fin 1) d (⟨z.val, hz⟩ : Fin 1280))
    refine Finite.real_of_abs _ ?_
    rw [← h1]
    pointwise
    rfl

end Cert.Proof.Projection

end

end
-- ==== Proof.Rows.lean ====
/- A row's attention depends on its finite scores alone: columns that score minus infinity carry no weight. -/
module

public import proofs.«01_k».proof.Proof.Spec

@[expose] public section

noncomputable section

namespace Cert.Proof

open Idealize.ShloMosaic

theorem rowMax_lt_top (s : Fin 384 → EReal) (sink : ℝ) (hs : ∀ x, s x ≠ ⊤) : rowMax s sink < ⊤ :=
  max_lt ((Finset.fold_max_lt _).mpr ⟨bot_lt_top, fun x _ => lt_top_iff_ne_top.mpr (hs x)⟩) (EReal.coe_lt_top _)

/-- The largest of a row's scores and its sink is a real number. -/
theorem rowMax_real (s : Fin 384 → EReal) (sink : ℝ) (hs : ∀ x, s x ≠ ⊤) : ∃ M : ℝ, rowMax s sink = M := by
  have h1 := rowMax_lt_top s sink hs
  have h2 : (⊥ : EReal) < rowMax s sink := lt_of_lt_of_le (EReal.bot_lt_coe _) (le_max_right _ _)
  exact ⟨_, (EReal.coe_toReal h1.ne h2.ne').symm⟩

theorem exp_nonneg (x : EReal) : 0 ≤ Ideal.exp x := by
  induction x with
  | bot => simp
  | top => simp
  | coe r => rw [Ideal.exp_coe]; exact_mod_cast (Real.exp_pos r).le

/-- A row's denominator is positive. -/
theorem rowSum_ne_zero (s : Fin 384 → EReal) (sink : ℝ) (hs : ∀ x, s x ≠ ⊤) : rowSum s sink ≠ 0 := by
  obtain ⟨M, hM⟩ := rowMax_real s sink hs
  unfold rowSum
  rw [hM, ← EReal.coe_sub, Ideal.exp_coe]
  refine ne_of_gt (lt_of_lt_of_le (b := ((Real.exp (sink - M) : ℝ) : EReal)) (by exact_mod_cast Real.exp_pos _) ?_)
  exact le_add_of_nonneg_left (Finset.sum_nonneg fun x _ => exp_nonneg _)

/-- A column that scores minus infinity has no weight. -/
theorem weight_bot (s : Fin 384 → EReal) (sink : ℝ) (hs : ∀ x, s x ≠ ⊤) (x : Fin 384) (hx : s x = ⊥) : weight s sink x = 0 := by
  unfold weight
  rw [hx, EReal.bot_sub, Ideal.exp_bot]
  unfold Ideal.div
  rw [if_neg (rowSum_ne_zero s sink hs), zero_mul]

section Shift

variable (s s' v v' : Fin 384 → EReal) (sink : ℝ) (hs : ∀ x, s x ≠ ⊤) (f : ∀ x, s x ≠ ⊥ → Fin 384)
  (hinj : ∀ x hx y hy, f x hx = f y hy → x = y) (hsurj : ∀ y, s' y ≠ ⊥ → ∃ x hx, f x hx = y)
  (hval : ∀ x hx, s' (f x hx) = s x) (hv : ∀ x hx, v' (f x hx) = v x)

include hsurj hval in
theorem rowMax_shift : rowMax s sink = rowMax s' sink := by
  unfold rowMax
  congr 1
  refine le_antisymm ((Finset.fold_max_le _).mpr ⟨bot_le, fun x _ => ?_⟩) ((Finset.fold_max_le _).mpr ⟨bot_le, fun y _ => ?_⟩)
  · by_cases hx : s x = ⊥
    · rw [hx]; exact bot_le
    · exact (Finset.le_fold_max _).mpr (Or.inr ⟨f x hx, Finset.mem_univ _, (hval x hx).ge⟩)
  · by_cases hy : s' y = ⊥
    · rw [hy]; exact bot_le
    · obtain ⟨x, hx, rfl⟩ := hsurj y hy
      exact (Finset.le_fold_max _).mpr (Or.inr ⟨x, Finset.mem_univ _, (hval x hx).le⟩)

include hinj hsurj in
/-- Two sums over columns agree where the finite scores' columns correspond and the rest are zero. -/
theorem sum_shift (p p' : Fin 384 → EReal) (hp : ∀ x, s x = ⊥ → p x = 0) (hp' : ∀ y, s' y = ⊥ → p' y = 0)
    (he : ∀ x hx, p' (f x hx) = p x) : ∑ x, p x = ∑ y, p' y := by
  refine Finset.sum_bij_ne_zero (fun x _ hx => f x fun h => hx (hp x h)) (fun _ _ _ => Finset.mem_univ _)
    (fun x _ _ y _ _ h => hinj _ _ _ _ h) (fun y _ hy => ?_) (fun x _ hx => (he _ _).symm)
  obtain ⟨x, hx, rfl⟩ := hsurj y fun h => hy (hp' y h)
  exact ⟨x, Finset.mem_univ _, by rw [← he x hx]; exact hy, rfl⟩

include hinj hsurj hval in
theorem rowSum_shift : rowSum s sink = rowSum s' sink := by
  unfold rowSum
  rw [← rowMax_shift s s' sink f hsurj hval]
  refine congrArg (· + _) (sum_shift s s' f hinj hsurj _ _ (fun x hx => ?_) (fun y hy => ?_) fun x hx => ?_)
  · rw [hx, EReal.bot_sub, Ideal.exp_bot]
  · rw [hy, EReal.bot_sub, Ideal.exp_bot]
  · rw [hval]

include hs hinj hsurj hval hv in
/-- Two rows whose finite scores correspond, with the same values at corresponding columns, have the same attention. -/
theorem attend_shift : attend s v sink = attend s' v' sink := by
  have hs' (y : Fin 384) : s' y ≠ ⊤ := by
    by_cases hy : s' y = ⊥
    · rw [hy]; exact bot_ne_top
    · obtain ⟨x, hx, rfl⟩ := hsurj y hy
      rw [hval]; exact hs x
  unfold attend
  refine sum_shift s s' f hinj hsurj _ _ (fun x hx => ?_) (fun y hy => ?_) fun x hx => ?_
  · rw [weight_bot s sink hs x hx, zero_mul]
  · rw [weight_bot s' sink hs' y hy, zero_mul]
  · unfold weight
    rw [hval, hv, ← rowMax_shift s s' sink f hsurj hval, ← rowSum_shift s s' sink f hinj hsurj hval]

end Shift

end Cert.Proof

end

end
-- ==== Proof.Lists.lean ====
/- What the attention kernel's scratch buffers hold, as lists of stores: each list is ONE generic store repeated
   over the heads (scores, outputs) or over the 16-row chunks (probabilities). -/
module

public import proofs.«01_k».proof.Proof.Gen.KernelIdeal.Value

@[expose] public section

noncomputable section

namespace Cert.Proof

open Cert.KernelIdeal Cert.KernelIdeal.Gen Idealize.ShloMosaic Idealize.ShloMosaic.TcCoe Idealize.SL.Sem

variable {F : FTy → Type} [FloatOps F]

/-- Where key/value head `kh`'s window starts in the key (value) block of grid point `i`. -/
def kvOff (i : grid0.Coords) (kh : Fin 4) : Fin 3 → ℕ := ![0, k0_off1 i 1, 64 * kh.val]

theorem kvOff_inb (i : grid0.Coords) (kh : Fin 4) : ∀ a, kvOff i kh a + S1x384x64.size a ≤ S1x2048x256.size a := by
  intro a
  have h1 := k0_off1_inb i 1
  have hk := kh.isLt
  fin_cases a
  · show 0 + 1 ≤ 1; omega
  · exact h1
  · show 64 * kh.val + 64 ≤ 256; omega

variable (c : Dev nD) (i : grid0.Coords)
  (arg2 : Memref sig .tc .vmem S1x128x1024 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S1x2048x384 .f32) (harg5 : arg5.IsWhole)
  (arg6 : Memref sig .tc .smem S16 .f32) (harg6 : arg6.IsWhole)
  (arg10 : Memref sig .tc .vmem S2048x384 .f32) (arg11 : Memref sig .tc .vmem S2048x384 .bf16)
  (x0 : Vec F S1x128x1024 .bf16) (x1 : Vec F S1x2048x256 .bf16) (x2 : Vec F S1x2048x256 .bf16)
  (x3 : Vec F S1x2048x384 .f32) (x4 : Vec F S16 .f32)

theorem qOff_inb (h : Fin 16) : ∀ a, (![0, 0, 64 * h.val] : Fin 3 → ℕ) a + S1x128x64.size a ≤ S1x128x1024.size a := by
  intro a; have := h.isLt
  fin_cases a
  · show 0 + 1 ≤ 1; omega
  · show 0 + 128 ≤ 128; omega
  · show 64 * h.val + 64 ≤ 1024; omega

theorem biasOff_inb (h : Fin 16) : ∀ a, (![0, 128 * h.val, 0] : Fin 3 → ℕ) a + S1x128x384.size a ≤ S1x2048x384.size a := by
  intro a; have := h.isLt
  fin_cases a
  · show 0 + 1 ≤ 1; omega
  · show 128 * h.val + 128 ≤ 2048; omega
  · show 0 + 384 ≤ 384; omega

theorem headRows_inb (h : Fin 16) : ∀ a, (![128 * h.val, 0] : Fin 2 → ℕ) a + S128x384.size a ≤ S2048x384.size a := by
  intro a; have := h.isLt
  fin_cases a
  · show 128 * h.val + 128 ≤ 2048; omega
  · show 0 + 384 ≤ 384; omega

theorem chunkRows_inb (k : Fin 128) : ∀ a, (![16 * k.val, 0] : Fin 2 → ℕ) a + S16x384.size a ≤ S2048x384.size a := by
  intro a; have := k.isLt
  fin_cases a
  · show 16 * k.val + 16 ≤ 2048; omega
  · show 0 + 384 ≤ 384; omega

theorem headCols_inb (h : Fin 16) : ∀ a, (![0, 64 * h.val] : Fin 2 → ℕ) a + S128x64.size a ≤ S128x1024.size a := by
  intro a; have := h.isLt
  fin_cases a
  · show 0 + 128 ≤ 128; omega
  · show 64 * h.val + 64 ≤ 1024; omega

theorem sinkOff_inb (h : Fin 16) : ∀ a, (![h.val] : Fin 1 → ℕ) a + S1.size a ≤ S16.size a := by
  intro a; have := h.isLt
  fin_cases a
  show h.val + 1 ≤ 16; omega

/-- The key/value head of query head `h`. -/
def kvOf (h : Fin 16) : Fin 4 := ⟨h.val / 4, by omega⟩

/-- Head `h`'s scores, as stored: its queries against its window of keys, plus its rows of the bias. -/
def scorePay (h : Fin 16) : FVec F S128x384 .f32 :=
  k0_pay4
    (View.readAt (Elt F) arg3.view (Rect.unit (s := S1x2048x256) (kvOff i (kvOf h)) S1x384x64.size (kvOff_inb i (kvOf h))).toLoadRect (harg3.unread x1))
    (View.readAt (Elt F) arg2.view (Rect.unit (s := S1x128x1024) ![0, 0, 64 * h.val] S1x128x64.size (qOff_inb h)).toLoadRect (harg2.unread x0))
    (View.readAt (Elt F) arg5.view (Rect.unit (s := S1x2048x384) ![0, 128 * h.val, 0] S1x128x384.size (biasOff_inb h)).toLoadRect (harg5.unread x3))

/-- The score scratch's sixteen stores, one per head. -/
theorem scores_list : kernelRun0_A.sl.HS1_16 c i arg2 harg2 arg3 harg3 arg5 harg5 x0 x1 x3
    = List.ofFn fun n : Fin 16 => (⟨Rect.unit (s := S2048x384) ![128 * (15 - n.val), 0] S128x384.size (headRows_inb ⟨15 - n.val, by omega⟩),
        scorePay i arg2 harg2 arg3 harg3 arg5 harg5 x0 x1 x3 ⟨15 - n.val, by omega⟩⟩ : View.Piece (Elt F) S2048x384 .f32) := rfl

/-- Sixteen rows of one head's probabilities, as stored: the softmax of those rows of the scores `L` with head `k / 8`'s sink. -/
def probPay (L : List (View.Piece (Elt F) S2048x384 .f32)) (k : Fin 128) : FVec F S16x384 .bf16 :=
  k0_pay38
    (View.readAt (Elt F) arg6.view (Rect.unit (s := S16) ![k.val / 8] S1.size (sinkOff_inb ⟨k.val / 8, by omega⟩)).toLoadRect
      (harg6.unread x4) (Shape.Idx.first (s := S1) (by decide)))
    (arg10.view.readCov L (Rect.unit (s := S2048x384) ![16 * k.val, 0] S16x384.size (chunkRows_inb k)).toLoadRect)

set_option maxRecDepth 4000 in
/-- The probability scratch's 128 stores, one per 16 rows. -/
theorem probs_list : kernelRun0_A.sl.HS2_128 c i arg2 harg2 arg3 harg3 arg5 harg5 arg6 harg6 arg10 x0 x1 x3 x4
    = List.ofFn fun n : Fin 128 => (⟨Rect.unit (s := S2048x384) ![16 * (127 - n.val), 0] S16x384.size (chunkRows_inb ⟨127 - n.val, by omega⟩),
        probPay arg6 harg6 arg10 x4 (kernelRun0_A.sl.HS1_16 c i arg2 harg2 arg3 harg3 arg5 harg5 x0 x1 x3) ⟨127 - n.val, by omega⟩⟩
        : View.Piece (Elt F) S2048x384 .bf16) := rfl

/-- Head `h`'s output, as stored: its probabilities `L` times its window of values. -/
def outPay (L : List (View.Piece (Elt F) S2048x384 .bf16)) (h : Fin 16) : FVec F S128x64 .f32 :=
  k0_pay253
    (View.readAt (Elt F) arg4.view (Rect.unit (s := S1x2048x256) (kvOff i (kvOf h)) S1x384x64.size (kvOff_inb i (kvOf h))).toLoadRect (harg4.unread x2))
    (arg11.view.readCov L (Rect.unit (s := S2048x384) ![128 * h.val, 0] S128x384.size (headRows_inb h)).toLoadRect)

/-- The output scratch's sixteen stores, one per head. -/
theorem outs_list : kernelRun0_A.sl.HS0_16 c i arg2 harg2 arg3 harg3 arg4 harg4 arg5 harg5 arg6 harg6 arg10 arg11 x0 x1 x2 x3 x4
    = List.ofFn fun n : Fin 16 => (⟨Rect.unit (s := S128x1024) ![0, 64 * (15 - n.val)] S128x64.size (headCols_inb ⟨15 - n.val, by omega⟩),
        outPay i arg4 harg4 arg11 x2 (kernelRun0_A.sl.HS2_128 c i arg2 harg2 arg3 harg3 arg5 harg5 arg6 harg6 arg10 x0 x1 x3 x4)
          ⟨15 - n.val, by omega⟩⟩ : View.Piece (Elt F) S128x1024 .f32) := rfl

end Cert.Proof

end

end
-- ==== Proof.Block.lean ====
/- What one grid point of the attention kernel computes, from its input blocks: the scores, the probabilities, the
   outputs of the sixteen heads and their norm. -/
module

public import proofs.«01_k».proof.Proof.Lists
public import proofs.«01_k».proof.Proof.Spec
public import Idealize.ShloMosaic.Lib.Pipeline.ValueKit
public import Idealize.ShloMosaic.Lib.WholeRead

@[expose] public section

noncomputable section

namespace Cert.Proof

open Cert.KernelIdeal Cert.KernelIdeal.Gen Idealize.ShloMosaic Idealize.ShloMosaic.TcCoe Idealize.SL.Sem

/-! ## The stored values at an index -/

theorem score_pay (k : Vec Ideal S1x384x64 .bf16) (q : Vec Ideal S1x128x64 .bf16) (b : Vec Ideal S1x128x384 .f32) (r : Fin 128) (n : Fin 384) :
    k0_pay4 (F := Ideal) k q b (ix2 r n)
      = ∑ x : Fin 64, q (ix3 0 r x) * (k (ix3 0 n x) * Ideal.ofBits .bf16 15872#16) + b (ix3 0 r n) := by
  unfold k0_pay4 k0_pay3
  pointwise

theorem prob_pay (sink : Elt Ideal .f32) (s : Vec Ideal S16x384 .f32) (r : Fin 16) (n : Fin 384) :
    k0_pay38 (F := Ideal) sink s (ix2 r n) = weight (fun x => s (ix2 r x)) sink n := by
  unfold k0_pay38 weight rowSum rowMax
  rw [← negInf_eq]
  pointwise

theorem out_pay (v : Vec Ideal S1x384x64 .bf16) (p : Vec Ideal S128x384 .bf16) (r : Fin 128) (d : Fin 64) :
    k0_pay253 (F := Ideal) v p (ix2 r d) = ∑ k : Fin 384, p (ix2 r k) * v (ix3 0 k d) := by
  unfold k0_pay253 k0_pay252
  pointwise

theorem norm_pay (a : Vec Ideal S128x1024 .f32) (g : Vec Ideal S1x1024 .f32) (r : Fin 128) (c : Fin 1024) :
    k0_pay2 (F := Ideal) a g (ix3 0 r c) = normed (fun x => a (ix2 r x)) (fun x => g (ix2 0 x)) c := by
  unfold k0_pay2 normed
  pointwise

/-! ## The scratch buffers' contents -/

variable (c : Dev nD) (i : grid0.Coords)
  (arg2 : Memref sig .tc .vmem S1x128x1024 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S1x2048x384 .f32) (harg5 : arg5.IsWhole)
  (arg6 : Memref sig .tc .smem S16 .f32) (harg6 : arg6.IsWhole)
  (arg9 : Memref sig .tc .vmem S128x1024 .f32)
  (arg10 : Memref sig .tc .vmem S2048x384 .f32) (arg11 : Memref sig .tc .vmem S2048x384 .bf16)
  (x0 : Vec Ideal S1x128x1024 .bf16) (x1 : Vec Ideal S1x2048x256 .bf16) (x2 : Vec Ideal S1x2048x256 .bf16)
  (x3 : Vec Ideal S1x2048x384 .f32) (x4 : Vec Ideal S16 .f32)

/-- Column `64 h + d` of a row of sixteen heads. -/
def headCol (h : Fin 16) (d : Fin 64) : Fin 1024 := ⟨64 * h.val + d.val, by omega⟩

/-- Row `128 h + r` of a buffer of sixteen heads' rows. -/
def headRow (h : Fin 16) (r : Fin 128) : Fin 2048 := ⟨128 * h.val + r.val, by omega⟩

/-- Column `64 j + d` of a row of four key/value heads. -/
def kvCol (j : Fin 4) (d : Fin 64) : Fin 256 := ⟨64 * j.val + d.val, by omega⟩

theorem start_le : k0_off1 i 1 ≤ 1664 := by
  have h1 := k0_off1_inb i 1
  have : k0_off1 i 1 + 384 ≤ 2048 := h1
  omega

/-- The key position of column `n` of the window of grid point `i`. -/
def winRow (n : Fin 384) : Fin 2048 := ⟨k0_off1 i 1 + n.val, by have := start_le i; omega⟩

/-- The score of query row `r` and column `n` of the window, in head `h`, as the kernel computes it from its blocks. -/
def blockScore (h : Fin 16) (r : Fin 128) (n : Fin 384) : EReal :=
  ∑ d : Fin 64, x0 (ix3 0 r (headCol h d)) * (x1 (ix3 0 (winRow i n) (kvCol (kvOf h) d)) * Ideal.ofBits .bf16 15872#16)
    + x3 (ix3 0 (headRow h r) n)

theorem scores_at (h : Fin 16) (r : Fin 128) (n : Fin 384) :
    View.canon (kernelRun0_A.sl.HS1_16 (F := Ideal) c i arg2 harg2 arg3 harg3 arg5 harg5 x0 x1 x3) (ix2 (headRow h r) n)
      = blockScore i x0 x1 x3 h r n := by
  rw [scores_list]
  refine View.canon_ofFn_unit_eq_of_forall _ _ _ _ _ _ ⟨⟨15 - h.val, by omega⟩, ?_⟩ ?_
  · intro a
    fin_cases a
    · show 128 * (15 - (15 - h.val)) ≤ 128 * h.val + r.val ∧ 128 * h.val + r.val < 128 * (15 - (15 - h.val)) + 128
      omega
    · exact ⟨Nat.zero_le _, by show n.val < 0 + 384; omega⟩
  · intro k
    tile_intro x e
    have e0 : 128 * h.val + r.val = 128 * (15 - k.val) + (x 0).val := e0
    have e1 : n.val = (x 1).val := e1
    have hx0 : (x 0).val < 128 := (x 0).isLt
    have hk : (⟨15 - k.val, by omega⟩ : Fin 16) = h := Fin.ext (by show 15 - k.val = h.val; omega)
    have hx : x = ix2 r n := by
      funext a
      fin_cases a
      · exact Fin.ext (by show (x 0).val = r.val; omega)
      · exact Fin.ext (by show (x 1).val = n.val; omega)
    rw [hk, hx]
    unfold scorePay blockScore
    refine (score_pay _ _ _ r n).trans ?_
    refine congrArg₂ (· + ·) (Finset.sum_congr rfl fun d _ => ?_) ?_
    · rw [harg2.readAt_unread, harg3.readAt_unread]
      refine congrArg₂ (· * ·) (congrArg x0 ?_) (congrArg₂ (· * ·) (congrArg x1 ?_) rfl)
      · funext a
        fin_cases a
        · rfl
        · exact Fin.ext (by show 0 + 1 * r.val = r.val; omega)
        · exact Fin.ext (by show 64 * h.val + 1 * d.val = 64 * h.val + d.val; omega)
      · funext a
        fin_cases a
        · rfl
        · exact Fin.ext (by show k0_off1 i 1 + 1 * n.val = k0_off1 i 1 + n.val; omega)
        · exact Fin.ext (by show 64 * (kvOf h).val + 1 * d.val = 64 * (kvOf h).val + d.val; omega)
    · rw [harg5.readAt_unread]
      refine congrArg x3 ?_
      funext a
      fin_cases a
      · rfl
      · exact Fin.ext (by show 128 * h.val + 1 * r.val = 128 * h.val + r.val; omega)
      · exact Fin.ext (by show 0 + 1 * n.val = n.val; omega)

theorem probs_at (h : Fin 16) (r : Fin 128) (n : Fin 384) :
    View.canon (kernelRun0_A.sl.HS2_128 (F := Ideal) c i arg2 harg2 arg3 harg3 arg5 harg5 arg6 harg6 arg10 x0 x1 x3 x4) (ix2 (headRow h r) n)
      = weight (blockScore i x0 x1 x3 h r) (x4 (ix1 h)) n := by
  rw [probs_list]
  refine View.canon_ofFn_unit_eq_of_forall _ _ _ _ _ _ ⟨⟨127 - (8 * h.val + r.val / 16), by omega⟩, ?_⟩ ?_
  · intro a
    fin_cases a
    · show 16 * (127 - (127 - (8 * h.val + r.val / 16))) ≤ 128 * h.val + r.val
        ∧ 128 * h.val + r.val < 16 * (127 - (127 - (8 * h.val + r.val / 16))) + 16
      omega
    · exact ⟨Nat.zero_le _, by show n.val < 0 + 384; omega⟩
  · intro k
    tile_intro x e
    have e0 : 128 * h.val + r.val = 16 * (127 - k.val) + (x 0).val := e0
    have e1 : n.val = (x 1).val := e1
    have hx0 : (x 0).val < 16 := (x 0).isLt
    have hk8 : (127 - k.val) / 8 = h.val := by omega
    have hx : x = ix2 (x 0) n := by
      funext a
      fin_cases a
      · rfl
      · exact Fin.ext (by show (x 1).val = n.val; omega)
    rw [hx]
    unfold probPay
    refine (prob_pay _ _ (x 0) n).trans ?_
    refine congrArg₂ (fun s t => weight s t n) (funext fun y => ?_) ?_
    · rw [View.readCov_eq_canon']
      refine Eq.trans (congrArg (View.canon _) ?_) (scores_at c i arg2 harg2 arg3 harg3 arg5 harg5 x0 x1 x3 h r y)
      funext a
      fin_cases a
      · exact Fin.ext (by show 16 * (127 - k.val) + 1 * (x 0).val = 128 * h.val + r.val; omega)
      · exact Fin.ext (by show 0 + 1 * y.val = y.val; omega)
    · rw [harg6.readAt_unread]
      refine congrArg x4 ?_
      funext a
      fin_cases a
      exact Fin.ext (by show (127 - k.val) / 8 + 1 * 0 = h.val; omega)

/-- The attention of query row `r` at column `d` of head `h`, as the kernel computes it from its blocks. -/
def blockAttend (r : Fin 128) (h : Fin 16) (d : Fin 64) : EReal :=
  attend (blockScore i x0 x1 x3 h r) (fun n => x2 (ix3 0 (winRow i n) (kvCol (kvOf h) d))) (x4 (ix1 h))

theorem outs_at (r : Fin 128) (h : Fin 16) (d : Fin 64) :
    View.canon (kernelRun0_A.sl.HS0_16 (F := Ideal) c i arg2 harg2 arg3 harg3 arg4 harg4 arg5 harg5 arg6 harg6 arg10 arg11 x0 x1 x2 x3 x4)
      (ix2 r (headCol h d)) = blockAttend i x0 x1 x2 x3 x4 r h d := by
  rw [outs_list]
  refine View.canon_ofFn_unit_eq_of_forall _ _ _ _ _ _ ⟨⟨15 - h.val, by omega⟩, ?_⟩ ?_
  · intro a
    fin_cases a
    · exact ⟨Nat.zero_le _, by show r.val < 0 + 128; omega⟩
    · show 64 * (15 - (15 - h.val)) ≤ 64 * h.val + d.val ∧ 64 * h.val + d.val < 64 * (15 - (15 - h.val)) + 64
      omega
  · intro k
    tile_intro x e
    have e0 : r.val = (x 0).val := e0
    have e1 : 64 * h.val + d.val = 64 * (15 - k.val) + (x 1).val := e1
    have hx1 : (x 1).val < 64 := (x 1).isLt
    have hk : (⟨15 - k.val, by omega⟩ : Fin 16) = h := Fin.ext (by show 15 - k.val = h.val; omega)
    have hx : x = ix2 r d := by
      funext a
      fin_cases a
      · exact Fin.ext (by show (x 0).val = r.val; omega)
      · exact Fin.ext (by show (x 1).val = d.val; omega)
    rw [hk, hx]
    unfold outPay blockAttend attend
    refine (out_pay _ _ r d).trans (Finset.sum_congr rfl fun y _ => ?_)
    rw [View.readCov_eq_canon', harg4.readAt_unread]
    refine congrArg₂ (· * ·) (Eq.trans (congrArg (View.canon _) ?_)
      (probs_at c i arg2 harg2 arg3 harg3 arg5 harg5 arg6 harg6 arg10 x0 x1 x3 x4 h r y)) (congrArg x2 ?_)
    · funext a
      fin_cases a
      · exact Fin.ext (by show 128 * h.val + 1 * r.val = 128 * h.val + r.val; omega)
      · exact Fin.ext (by show 0 + 1 * y.val = y.val; omega)
    · funext a
      fin_cases a
      · rfl
      · exact Fin.ext (by show k0_off1 i 1 + 1 * y.val = k0_off1 i 1 + y.val; omega)
      · exact Fin.ext (by show 64 * (kvOf h).val + 1 * d.val = 64 * (kvOf h).val + d.val; omega)

/-- The head of column `x` of a row of sixteen heads. -/
def headOf (x : Fin 1024) : Fin 16 := ⟨x.val / 64, by omega⟩

/-- The column within its head of column `x` of a row of sixteen heads. -/
def colOf (x : Fin 1024) : Fin 64 := ⟨x.val % 64, by omega⟩

theorem headCol_of (x : Fin 1024) : headCol (headOf x) (colOf x) = x :=
  Fin.ext (by show 64 * (x.val / 64) + x.val % 64 = x.val; omega)

variable (x5 : Vec Ideal S1x1024 .f32)

/-- A grid point's output block: the attention of its 128 query rows, each row divided by its root mean square. -/
theorem block_at (arg7 : Memref sig .tc .vmem S1x1024 .f32) (harg7 : arg7.IsWhole)
    (arg8 : Memref sig .tc .vmem S1x128x1024 .bf16) (harg8 : arg8.IsWhole) (harg9 : arg9.IsWhole) (harg10 : arg10.IsWhole)
    (harg11 : arg11.IsWhole) (r : Fin 128) (x : Fin 1024) :
    out0_A_6 (F := Ideal) c i arg2 harg2 arg3 harg3 arg4 harg4 arg5 harg5 arg6 harg6 arg7 harg7 arg8 harg8 arg9 harg9
        arg10 harg10 arg11 harg11 x0 x1 x2 x3 x4 x5 (ix3 0 r x)
      = normed (fun y => blockAttend i x0 x1 x2 x3 x4 r (headOf y) (colOf y)) (fun y => x5 (ix2 0 y)) x := by
  unfold out0_A_6
  rw [View.read_writes_eq_canon _ _ _ (cover0_A_6 c i arg2 harg2 arg3 harg3 arg4 harg4 arg5 harg5 arg6 harg6 arg7 harg7
    arg8 harg8 arg9 harg9 arg10 harg10 arg11 harg11 x0 x1 x2 x3 x4 x5)]
  unfold kernelRun0_A
  dsimp only
  rw [View.canon_unit_zero (by funext a; fin_cases a <;> rfl)]
  refine (norm_pay _ _ r x).trans (congrArg₂ (fun a g => normed a g x) (funext fun y => ?_) (funext fun y => ?_))
  · unfold kernelRun0_A.sl.v2837
    rw [View.readCov_eq_canon']
    refine Eq.trans (congrArg (View.canon _) ?_)
      (outs_at c i arg2 harg2 arg3 harg3 arg4 harg4 arg5 harg5 arg6 harg6 arg10 arg11 x0 x1 x2 x3 x4 r (headOf y) (colOf y))
    rw [headCol_of]
    funext a
    fin_cases a
    · exact Fin.ext (by show 0 + 1 * r.val = r.val; omega)
    · exact Fin.ext (by show 0 + 1 * y.val = y.val; omega)
  · rw [harg7.readAt_unread]
    refine congrArg x5 ?_
    funext a
    fin_cases a
    · rfl
    · exact Fin.ext (by show 0 + 1 * y.val = y.val; omega)

end Cert.Proof

end

end
-- ==== Proof.Windows.lean ====
/- Where the attention kernel's blocks lie in its arrays, and its result array from the arrays as the call finds them. -/
module

public import proofs.«01_k».proof.Proof.Block

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline

/-- Where the window of keys of query block `I` starts. -/
def winStart (I : ℕ) : ℕ := min 1664 (128 * I - 128)

/-- The block indices of the windows at a point, and the start of its window of keys. -/
theorem indices : ∀ t : Fin grid0.N, win0_0.index t = ![t.val / 16, t.val % 16, 0] ∧ win0_1.index t = ![t.val / 16, 0, 4]
    ∧ win0_2.index t = ![t.val / 16, 0, 5] ∧ win0_3.index t = ![t.val % 16 - winStart (t.val % 16) / 128, 0, 0]
    ∧ win0_4.index t = ![0] ∧ win0_5.index t = ![0, 0] ∧ win0_6.index t = ![t.val / 16, t.val % 16, 0]
    ∧ k0_off1 (grid0.coords t) 1 = winStart (t.val % 16) := by decide +kernel

theorem covers6 : (cfg0.win 6).Covers := by decide +kernel

end Cert.Proof

end

end
-- ==== Proof.Bias.lean ====
/- What the attention's prepared arguments hold when its call begins: the bias table, the sinks and the norm's scale. -/
module

public import proofs.«01_k».proof.Proof.Windows
public import proofs.«01_k».proof.Proof.Scalars

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline

/-- The distance of every row and column of the three bias tables, as the words the host computes. -/
def distTable : IVec S3x16x128x384 32 :=
  absi (addi (subi (iotaInDim S3x16x128x384 32 2) (iotaInDim S3x16x128x384 32 3))
    (muli (iotaInDim S3x16x128x384 32 0) (broadcastInDim S3x16x128x384 ![] bcast_S_S3x16x128x384 (constantI S_ 32 128#32))))

/-- The three bias tables as the host computes them. -/
def biasTable : FVec Ideal S3x16x128x384 .f32 :=
  select (cmpi .sle distTable (broadcastInDim S3x16x128x384 ![] bcast_S_S3x16x128x384 (constantI S_ 32 128#32)))
    (mulf
      (Host.negf
        (Host.exp
          (mulf (broadcastInDim S3x16x128x384 ![] bcast_S_S3x16x128x384 (constant S_ FTy.f32 1060205080#32))
            (subf
              (Host.divf
                (mulf (broadcastInDim S3x16x128x384 ![] bcast_S_S3x16x128x384 (constant S_ FTy.f32 3238002688#32))
                  (sitofp FTy.f32 (iotaInDim S3x16x128x384 32 1)))
                (broadcastInDim S3x16x128x384 ![] bcast_S_S3x16x128x384 (constant S_ FTy.f32 1098907648#32)))
              (broadcastInDim S3x16x128x384 ![] bcast_S_S3x16x128x384 (constant S_ FTy.f32 1056964608#32))))))
      (sitofp FTy.f32 distTable))
    (broadcastInDim S3x16x128x384 ![] bcast_S_S3x16x128x384 (constant S_ FTy.f32 4286578688#32))

/-- The distance word of row `r` and column `n` in table `v` is that of `r - n + 128 v`. -/
theorem dist_at (v : Fin 3) (h : Fin 16) (r : Fin 128) (n : Fin 384) :
    (distTable (ix4 v h r n)).toInt = |(r.val : ℤ) - n.val + 128 * v.val| := by
  have e : distTable (ix4 v h r n) = IntOp.absi (BitVec.ofInt 32 ((r.val : ℤ) - n.val + 128 * v.val)) := by
    unfold distTable
    pointwise
    refine congrArg IntOp.absi ?_
    show BitVec.ofNat 32 r - BitVec.ofNat 32 n + BitVec.ofNat 32 v * 128#32 = _
    rw [sub_words, BitVec.ofInt_add, BitVec.ofInt_mul, BitVec.mul_comm]
    rfl
  rw [e, absi_ofInt]
  have := r.isLt
  have := n.isLt
  have := v.isLt
  rw [abs_lt]
  omega

/-- Table `v` holds, for row `r` and column `n`, the bias at distance `r - n + 128 v`. -/
theorem table_at (v : Fin 3) (h : Fin 16) (r : Fin 128) (n : Fin 384) :
    biasTable (ix4 v h r n) = biasAt h ((r.val : ℤ) - n.val + 128 * v.val) := by
  have e : biasTable (ix4 v h r n) = Scalar.select (IntOp.cmpi .sle (distTable (ix4 v h r n)) 128#32)
      (-Ideal.exp (Ideal.ofBits .f32 1060205080#32 * (Ideal.div (Ideal.ofBits .f32 3238002688#32 *
        FloatOps.sitofp (F := Ideal) .f32 (BitVec.ofNat 32 h)) (Ideal.ofBits .f32 1098907648#32)
        - Ideal.ofBits .f32 1056964608#32)) * FloatOps.sitofp (F := Ideal) .f32 (distTable (ix4 v h r n)))
      (Ideal.ofBits .f32 4286578688#32) := by
    unfold biasTable
    pointwise
  have eh : FloatOps.sitofp (F := Ideal) .f32 (BitVec.ofNat 32 h) = ((h.val : ℝ) : EReal) :=
    sitofp_word _ (by have := h.isLt; omega)
  have ed : FloatOps.sitofp (F := Ideal) .f32 (distTable (ix4 v h r n))
      = ((|(r.val : ℤ) - n.val + 128 * v.val| : ℤ) : ℝ) := by
    show ((((distTable (ix4 v h r n)).toInt : ℤ) : ℝ) : EReal) = _
    rw [dist_at]
  rw [e, eh, ed, slope_shifted, negInf_eq, WordCmp.cmpi_sle_eq, dist_at]
  unfold biasAt Scalar.select
  by_cases hz : |(r.val : ℤ) - n.val + 128 * v.val| ≤ 128
  · have hz' : |(r.val : ℤ) - n.val + 128 * v.val| ≤ (128#32).toInt := hz
    simp [hz, hz']
  · have hz' : ¬ |(r.val : ℤ) - n.val + 128 * v.val| ≤ (128#32).toInt := hz
    simp [hz, hz']

variable (m : (ℓ : Loc nD τ sig) → Buf (Elt Ideal) ℓ) (c : Dev nD)

/-- The bias argument of the call, at head `h` and row `r` of its rows. -/
theorem bias_arg (v : Fin 3) (h : Fin 16) (r : Fin 128) (n : Fin 384) :
    (V m c main_v27 : S3x2048x384.Idx → EReal) (ix3 v (headRow h r) n) = biasAt h ((r.val : ℤ) - n.val + 128 * v.val) := by
  rw [← table_at]
  simp only [V, hostOps0, hostOps0_1, hostOps0_2, List.flatten_cons, List.flatten_nil, List.append_nil, List.cons_append,
    List.nil_append]
  entry_read
  show shapeCast S3x2048x384 biasTable _ _ = _
  have h0 := h.isLt
  have e1 : (128 * h.val + r.val) / 128 = h.val := by omega
  have e2 : (128 * h.val + r.val) % 128 = r.val := by omega
  pointwise [headRow, e1, e2]

/-- The sinks argument of the call. -/
theorem sink_arg (h : Fin 16) :
    (V m c main_v0 : S16.Idx → EReal) (ix1 h) = (m ((c : Thread nD τ).loc main_arg1) : S1x16.Idx → EReal) (ix2 0 h) := by
  simp only [V, hostOps0, hostOps0_1, hostOps0_2, List.flatten_cons, List.flatten_nil, List.append_nil, List.cons_append,
    List.nil_append]
  entry_read
  pointwise

/-- The scale argument of the call. -/
theorem scale_arg (x : Fin 1024) :
    (V m c main_v28 : S1x1024.Idx → EReal) (ix2 0 x) = (m ((c : Thread nD τ).loc main_arg2) : S1x1024.Idx → EReal) (ix2 0 x) := by
  simp only [V, hostOps0, hostOps0_1, hostOps0_2, List.flatten_cons, List.flatten_nil, List.append_nil, List.cons_append,
    List.nil_append]
  entry_read
  pointwise

end Cert.Proof

end

end
-- ==== Proof.Array.lean ====
/- The attention kernel's result array: every element from the arrays the program is given. -/
module

public import proofs.«01_k».proof.Proof.Bias

@[expose] public section

set_option maxRecDepth 16384

noncomputable section

namespace Cert.Proof

open Cert.KernelIdeal Cert.KernelIdeal.Gen Cert.KernelIdeal.Value Idealize.ShloMosaic Idealize.ShloMosaic.TcCoe Idealize.SL.Sem
open Idealize.ShloMosaic.Pipeline

theorem winStart_le (I : ℕ) : winStart I ≤ 1664 := Nat.min_le_left _ _

/-- The position of column `n` of the window of keys that position `t` looks at. -/
def keyPos (t : Fin 2048) (n : Fin 384) : Fin 2048 :=
  ⟨winStart (t.val / 128) + n.val, by have := winStart_le (t.val / 128); omega⟩

/-- Column `x` of a row of queries, of the keys and of the values, in a row of projections. -/
def qCol (x : Fin 1024) : Fin 4608 := ⟨x.val, by omega⟩
def kCol (x : Fin 256) : Fin 4608 := ⟨1024 + x.val, by omega⟩
def vCol (x : Fin 256) : Fin 4608 := ⟨1280 + x.val, by omega⟩

/-- The score of position `t` and column `n` of its window, in head `h`. -/
def kernelScore (X : S16x2048x4608.Idx → EReal) (b : Fin 16) (t : Fin 2048) (h : Fin 16) (n : Fin 384) : EReal :=
  ∑ d : Fin 64, X (ix3 b t (qCol (headCol h d))) * (X (ix3 b (keyPos t n) (kCol (kvCol (kvOf h) d))) * ((1 / 8 : ℝ) : EReal))
    + biasAt h ((t.val : ℤ) - (keyPos t n).val)

/-- One element of the attention from the projections and the sinks. -/
def kernelAttend (X : S16x2048x4608.Idx → EReal) (K : S1x16.Idx → EReal) (b : Fin 16) (t : Fin 2048) (h : Fin 16) (d : Fin 64) :
    EReal :=
  attend (kernelScore X b t h) (fun n => X (ix3 b (keyPos t n) (vCol (kvCol (kvOf h) d)))) (K (ix2 0 h))

/-- One element of the kernel's result. -/
def kernelOut (X : S16x2048x4608.Idx → EReal) (K : S1x16.Idx → EReal) (g : S1x1024.Idx → EReal) (b : Fin 16) (t : Fin 2048)
    (x : Fin 1024) : EReal :=
  normed (fun y => kernelAttend X K b t (headOf y) (colOf y)) (fun y => g (ix2 0 y)) x

variable (m : (ℓ : Loc nD τ sig) → Buf (Elt Ideal) ℓ) (c : Dev nD)

/-- The batch of a grid point. -/
def batchOf (t : Fin cfg0.N) : Fin 16 := ⟨t.val / 16, by have : t.val < 256 := lt_of_lt_of_eq t.isLt N_0; omega⟩

/-- The position of row `r` of a grid point's block of queries. -/
def posOf (t : Fin cfg0.N) (r : Fin 128) : Fin 2048 := ⟨128 * (t.val % 16) + r.val, by omega⟩

theorem posOf_div (t : Fin cfg0.N) (r : Fin 128) : (posOf t r).val / 128 = t.val % 16 := by
  show (128 * (t.val % 16) + r.val) / 128 = _; omega

/-- The number of the bias table that query block `I` uses is below three. -/
theorem table_lt (I : ℕ) (hI : I < 16) : I - winStart I / 128 < 3 := by unfold winStart; omega

theorem table_eq (I r n : ℕ) (hI : I < 16) :
    (r : ℤ) - n + 128 * ((I - winStart I / 128 : ℕ) : ℤ) = ((128 * I + r : ℕ) : ℤ) - ((winStart I + n : ℕ) : ℤ) := by
  unfold winStart
  omega

/-- A bias table's distance is that of the two positions. -/
theorem table_dist (t : Fin cfg0.N) (r : Fin 128) (n : Fin 384) :
    (r.val : ℤ) - n.val + 128 * ((t.val % 16 - winStart (t.val % 16) / 128 : ℕ) : ℤ)
      = ((posOf t r).val : ℤ) - (keyPos (posOf t r) n).val := by
  have e : (keyPos (posOf t r) n).val = winStart (t.val % 16) + n.val :=
    congrArg (fun I => winStart I + n.val) (posOf_div t r)
  rw [table_eq _ _ _ (Nat.mod_lt _ (by norm_num)), e]
  rfl

theorem queries_at (t : Fin cfg0.N) (r : Fin 128) (x : Fin 1024) : (X0_0 m c t : S1x128x1024.Idx → EReal) (ix3 0 r x)
    = (m ((c : Thread nD τ).loc main_arg0) : S16x2048x4608.Idx → EReal) (ix3 (batchOf t) (posOf t r) (qCol x)) := by
  obtain ⟨e0, -⟩ := indices t
  unfold X0_0 Pipeline.Window.fill
  rw [dif_pos (moved0_0 t _)]
  blk_ext [iblk, V, e0, batchOf, posOf, qCol]

theorem keys_at (t : Fin cfg0.N) (r : Fin 2048) (x : Fin 256) : (iblk m c 1 t : S1x2048x256.Idx → EReal) (ix3 0 r x)
    = (m ((c : Thread nD τ).loc main_arg0) : S16x2048x4608.Idx → EReal) (ix3 (batchOf t) r (kCol x)) := by
  obtain ⟨-, e1, -⟩ := indices t
  blk_ext [iblk, V, e1, batchOf, kCol]

theorem values_at (t : Fin cfg0.N) (r : Fin 2048) (x : Fin 256) : (iblk m c 2 t : S1x2048x256.Idx → EReal) (ix3 0 r x)
    = (m ((c : Thread nD τ).loc main_arg0) : S16x2048x4608.Idx → EReal) (ix3 (batchOf t) r (vCol x)) := by
  obtain ⟨-, -, e2, -⟩ := indices t
  blk_ext [iblk, V, e2, batchOf, vCol]

theorem bias_at (t : Fin cfg0.N) (h : Fin 16) (r : Fin 128) (n : Fin 384) :
    (iblk m c 3 t : S1x2048x384.Idx → EReal) (ix3 0 (headRow h r) n)
      = biasAt h (((posOf t r).val : ℤ) - (keyPos (posOf t r) n).val) := by
  obtain ⟨-, -, -, e3, -⟩ := indices t
  have hv := table_lt (t.val % 16) (Nat.mod_lt _ (by norm_num))
  refine Eq.trans (b := (V m c main_v27 : S3x2048x384.Idx → EReal) (ix3 ⟨_, hv⟩ (headRow h r) n)) ?_ ?_
  · blk_ext [iblk, e3]
  · rw [bias_arg]
    exact congrArg (biasAt h) (table_dist t r n)

theorem sink_at (t : Fin cfg0.N) (h : Fin 16) : (iblk m c 4 t : S16.Idx → EReal) (ix1 h)
    = (m ((c : Thread nD τ).loc main_arg1) : S1x16.Idx → EReal) (ix2 0 h) := by
  obtain ⟨-, -, -, -, e4, -⟩ := indices t
  refine Eq.trans ?_ (sink_arg m c h)
  blk_ext [iblk, e4]

theorem scale_at (t : Fin cfg0.N) (x : Fin 1024) : (iblk m c 5 t : S1x1024.Idx → EReal) (ix2 0 x)
    = (m ((c : Thread nD τ).loc main_arg2) : S1x1024.Idx → EReal) (ix2 0 x) := by
  obtain ⟨-, -, -, -, -, e5, -⟩ := indices t
  refine Eq.trans ?_ (scale_arg m c x)
  blk_ext [iblk, e5]

/-- What a grid point computes, from the arrays the program is given. -/
theorem point_at (t : Fin cfg0.N) (r : Fin 128) (x : Fin 1024) :
    (outsAt0 m c t : S1x128x1024.Idx → EReal) (ix3 0 r x)
      = kernelOut (m ((c : Thread nD τ).loc main_arg0)) (m ((c : Thread nD τ).loc main_arg1)) (m ((c : Thread nD τ).loc main_arg2))
          (batchOf t) (posOf t r) x := by
  obtain ⟨-, -, -, -, -, -, -, e7⟩ := indices t
  have hw (n : Fin 384) : winRow (grid0.coords t) n = keyPos (posOf t r) n :=
    Fin.ext (by show k0_off1 _ 1 + n.val = winStart ((posOf t r).val / 128) + n.val; rw [posOf_div, e7])
  unfold outsAt0
  rw [block_at]
  unfold kernelOut
  refine congrArg₂ (fun a g => normed a g x) (funext fun y => ?_) (funext fun y => scale_at m c t y)
  unfold blockAttend kernelAttend
  rw [sink_at]
  refine congrArg₂ (fun s v => attend s v _) (funext fun n => ?_) (funext fun n => ?_)
  · unfold blockScore kernelScore
    rw [bias_at, eighth_bf16]
    refine congrArg (· + _) (Finset.sum_congr rfl fun d _ => ?_)
    rw [queries_at, keys_at, hw]
  · rw [values_at, hw]

/-- The kernel's result array. -/
theorem kernel_array : (dats m 0 c).arrAt 6 cfg0.N = fun y : S16x2048x1024.Idx =>
    kernelOut (m ((c : Thread nD τ).loc main_arg0)) (m ((c : Thread nD τ).loc main_arg1)) (m ((c : Thread nD τ).loc main_arg2))
      (y 0) (y 1) (y 2) := by
  refine (dats m 0 c).arrAt_eq_of_covers 6 _ covers6 fun t hf y => ?_
  obtain ⟨-, -, -, -, -, -, e6, -⟩ := indices t
  blk_simp
  rw [after0_6]
  have h0 : (win0_6.blk t).view.emb y 0 = batchOf t := Fin.ext (by
    blk_simp; rw [e6]; rfl)
  have h1 : (win0_6.blk t).view.emb y 1 = posOf t (y 1) := Fin.ext (by
    blk_simp; rw [e6]; show t.val % 16 * 128 + (y 1).val = 128 * (t.val % 16) + (y 1).val; omega)
  have h2 : (win0_6.blk t).view.emb y 2 = y 2 := Fin.ext (by
    blk_simp; rw [e6]; show 0 * 1024 + (y 2).val = (y 2).val; omega)
  rw [h0, h1, h2]
  refine Eq.trans (congrArg (outsAt0 m c t : S1x128x1024.Idx → EReal) (a₂ := ix3 0 (y 1) (y 2)) ?_) (point_at m c t (y 1) (y 2))
  funext a
  fin_cases a
  · exact Fin.ext (Nat.lt_one_iff.mp (show (y 0).val < 1 from (y 0).isLt))
  · rfl
  · rfl

end Cert.Proof

end

end
-- ==== Proof.Scores.lean ====
/- What the reference scores: its keys and values in padded windows, its mask, its distances and its slopes. -/
module

public import proofs.«01_k».proof.Proof.Gen.ReferenceIdeal.Read
public import proofs.«01_k».proof.Proof.Scalars

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem Idealize.ShloMosaic.StableHlo

variable (X : S16x2048x4608.Idx → EReal)

/-- The head of group `j` with number `e` in it. -/
def headAt (j e : Fin 4) : Fin 16 := ⟨4 * j.val + e.val, by omega⟩

/-- The position of row `r` of query block `i`. -/
def rowAt (i : Fin 16) (r : Fin 128) : Fin 2048 := ⟨128 * i.val + r.val, by omega⟩

/-- The position in the padded keys of column `c` of query block `i`'s window. -/
def padAt (i : Fin 16) (c : Fin 384) : Fin 2304 := ⟨128 * i.val + c.val, by omega⟩

/-- The position of column `c` of query block `i`'s window, where it is one of the keys'. -/
def keyAt (i : Fin 16) (c : Fin 384) : Fin 2048 := ⟨min (128 * i.val + c.val - 128) 2047, by omega⟩

/-- The columns of a row of projections that hold queries, keys and values. -/
def qCol (h : Fin 16) (d : Fin 64) : Fin 4608 := ⟨64 * h.val + d.val, by omega⟩
def kCol (j : Fin 4) (d : Fin 64) : Fin 4608 := ⟨1024 + (64 * j.val + d.val), by omega⟩
def vCol (j : Fin 4) (d : Fin 64) : Fin 4608 := ⟨1280 + (64 * j.val + d.val), by omega⟩

/-- Column `c` is a key of row `r` of query block `i`: a position near enough, and inside the sequence. -/
def Seen (i : Fin 16) (r : Fin 128) (c : Fin 384) : Prop :=
  |(r.val : ℤ) + 128 - c.val| ≤ 128 ∧ 128 ≤ 128 * i.val + c.val ∧ 128 * i.val + c.val < 2176

instance (i : Fin 16) (r : Fin 128) (c : Fin 384) : Decidable (Seen i r c) := by unfold Seen; infer_instance

/-- The reference's queries. -/
theorem query_at (b i : Fin 16) (r : Fin 128) (j e : Fin 4) (d : Fin 64) :
    val_main_v8 (F := Ideal) X (ix6 b i r j e d) = X (ix3 b (rowAt i r) (qCol (headAt j e) d)) := by
  pointwise [val_main_v8, val_main_v2, val_main_v1, val_main_v0, rowAt, headAt, qCol]
  refine congrArg X (congrArg₂ (ix3 b) (Fin.ext ?_) (Fin.ext ?_)) <;> dsimp only <;> omega

/-- The reference's padded keys, at a position of the sequence. -/
theorem padKey_at (b i : Fin 16) (c : Fin 384) (j : Fin 4) (d : Fin 64) (h1 : 128 ≤ 128 * i.val + c.val)
    (h2 : 128 * i.val + c.val < 2176) :
    val_main_v9 (F := Ideal) X (ix4 b (padAt i c) j d) = X (ix3 b (keyAt i c) (kCol j d)) := by
  pointwise [val_main_v9, val_main_v4, val_main_v3, val_main_v0, padAt, keyAt, kCol]
  rw [dif_pos (by omega)]
  refine congrArg X (congrArg₂ (ix3 b) (Fin.ext ?_) (Fin.ext ?_)) <;> dsimp only <;> omega

/-- The reference's padded values, at a position of the sequence. -/
theorem padValue_at (b i : Fin 16) (c : Fin 384) (j : Fin 4) (d : Fin 64) (h1 : 128 ≤ 128 * i.val + c.val)
    (h2 : 128 * i.val + c.val < 2176) :
    val_main_v11 (F := Ideal) X (ix4 b (padAt i c) j d) = X (ix3 b (keyAt i c) (vCol j d)) := by
  pointwise [val_main_v11, val_main_v6, val_main_v5, val_main_v0, padAt, keyAt, vCol]
  rw [dif_pos (by omega)]
  refine congrArg X (congrArg₂ (ix3 b) (Fin.ext ?_) (Fin.ext ?_)) <;> dsimp only <;> omega

/-- The window of keys is a stretch of the padded keys. -/
theorem winKey_at (b i : Fin 16) (c : Fin 384) (j : Fin 4) (d : Fin 64) :
    val_main_v16 (F := Ideal) X (ix5 b i c j d) = val_main_v9 (F := Ideal) X (ix4 b (padAt i c) j d) := by
  unfold val_main_v16 val_main_v15 val_main_v14 val_main_v13 val_main_v10
  generalize val_main_v9 (F := Ideal) X = Y
  pointwise [padAt]
  split_ifs <;> refine congrArg Y (congrArg (fun p => ix4 b p j d) (Fin.ext ?_)) <;> dsimp only <;> omega

/-- The window of values is a stretch of the padded values. -/
theorem winValue_at (b i : Fin 16) (c : Fin 384) (j : Fin 4) (d : Fin 64) :
    val_main_v20 (F := Ideal) X (ix5 b i c j d) = val_main_v11 (F := Ideal) X (ix4 b (padAt i c) j d) := by
  unfold val_main_v20 val_main_v19 val_main_v18 val_main_v17 val_main_v12
  generalize val_main_v11 (F := Ideal) X = Y
  pointwise [padAt]
  split_ifs <;> refine congrArg Y (congrArg (fun p => ix4 b p j d) (Fin.ext ?_)) <;> dsimp only <;> omega

/-- The products of queries and keys, scaled. -/
theorem product_at (b i : Fin 16) (j e : Fin 4) (r : Fin 128) (c : Fin 384) :
    val_main_v24 (F := Ideal) X (ix6 b i j e r c)
      = (∑ d, val_main_v16 (F := Ideal) X (ix5 b i c j d) * val_main_v8 (F := Ideal) X (ix6 b i r j e d)) * ((1 / 8 : ℝ) : EReal) := by
  rw [← eighth_f32]
  unfold val_main_v24 val_main_v22 val_main_v21 val_main_v23 val_main_cst
  generalize val_main_v16 (F := Ideal) X = Y
  generalize val_main_v8 (F := Ideal) X = Z
  pointwise

/-- The slope of a head's bias. -/
theorem slope_at (j e : Fin 4) (r : Fin 128) (c : Fin 384) : val_main_v72 (F := Ideal) (ix4 j e r c) = slope (headAt j e) := by
  rw [← slope_counted]
  have e0 : FloatOps.sitofp (F := Ideal) .f32 (BitVec.ofNat 32 (j.val * 4 + e.val)) = (((headAt j e).val : ℝ) : EReal) := by
    rw [sitofp_word _ (by omega), Nat.mul_comm]
    rfl
  rw [← e0, one_f32]
  pointwise [val_main_v72, val_main_v69, val_main_v68, val_main_v67, val_main_v66, val_main_v65, val_main_v64, val_main_v63,
    val_main_v62, val_main_v61, val_main_v60, val_main_v59, val_main_v58, val_main_cst_7, val_main_cst_8, val_main_cst_9,
    val_main_cst_10]
  rfl

/-- The distance word of a row and a column. -/
theorem dist_at (r : Fin 128) (c : Fin 384) : (val_main_v34 (F := Ideal) (ix2 r c)).toInt = |(r.val : ℤ) + 128 - c.val| := by
  have e : val_main_v34 (F := Ideal) (ix2 r c) = IntOp.absi (BitVec.ofInt 32 ((r.val : ℤ) + 128 - c.val)) := by
    pointwise [val_main_v34, val_main_v33, val_main_v32, val_main_v31, val_main_v30, val_main_v29, val_main_v28, val_main_v27,
      val_main_v26, val_main_v25, val_main_c_1]
    refine congrArg IntOp.absi ?_
    rw [show ((r.val : ℤ) + 128 - c.val) = ((r.val + 128 : ℕ) : ℤ) - c.val by push_cast; ring, ← sub_words, BitVec.ofNat_add]
    rfl
  rw [e, absi_ofInt]
  have := r.isLt
  have := c.isLt
  rw [abs_lt]
  omega

/-- The position word of a column of a block's window. -/
theorem pos_at (i : Fin 16) (c : Fin 384) :
    (val_main_v45 (F := Ideal) (ix2 i c)).toInt = ((128 * i.val + c.val : ℕ) : ℤ) - 128 := by
  have e : val_main_v45 (F := Ideal) (ix2 i c) = BitVec.ofInt 32 (((128 * i.val + c.val : ℕ) : ℤ) - 128) := by
    pointwise [val_main_v45, val_main_v44, val_main_v43, val_main_v42, val_main_v41, val_main_v40, val_main_v39, val_main_v38,
      val_main_v37, val_main_v36, val_main_v35, val_main_c_2, val_main_c_3]
    show (BitVec.ofNat 32 i - BitVec.ofNat 32 1) * BitVec.ofInt 32 128 + BitVec.ofInt 32 c = _
    rw [sub_words, ← BitVec.ofInt_mul, ← BitVec.ofInt_add]
    refine congrArg _ ?_
    push_cast
    ring
  have := i.isLt
  have := c.isLt
  rw [e, BitVec.toInt_ofInt, Int.bmod_eq_of_le] <;> omega

theorem ofBool_and (a b : Bool) : IntOp.andi (BitVec.ofBool a) (BitVec.ofBool b) = BitVec.ofBool (a && b) := by
  cases a <;> cases b <;> rfl

/-- The reference's mask. -/
theorem mask_at (i : Fin 16) (r : Fin 128) (c : Fin 384) :
    val_main_v57 (F := Ideal) (ix3 i r c) = BitVec.ofBool (decide (Seen i r c)) := by
  have e : val_main_v57 (F := Ideal) (ix3 i r c) = IntOp.andi (IntOp.cmpi .sle (val_main_v34 (F := Ideal) (ix2 r c)) 128#32)
      (IntOp.andi (IntOp.cmpi .sge (val_main_v45 (F := Ideal) (ix2 i c)) 0#32)
        (IntOp.cmpi .slt (val_main_v45 (F := Ideal) (ix2 i c)) 2048#32)) := by
    unfold val_main_v57 val_main_v56 val_main_v55 val_main_v54 val_main_v53 val_main_v52 val_main_v51 val_main_v50 val_main_v49
      val_main_v48 val_main_v47 val_main_v46 val_main_c_4 val_main_c_5 val_main_c_6
    generalize val_main_v34 (F := Ideal) = D
    generalize val_main_v45 (F := Ideal) = P
    pointwise
  rw [e, WordCmp.cmpi_sle_eq, WordCmp.cmpi_sge_eq, WordCmp.cmpi_slt_eq, dist_at, pos_at, ofBool_and, ofBool_and]
  refine congrArg BitVec.ofBool ?_
  rw [← Bool.decide_and, ← Bool.decide_and]
  refine decide_eq_decide.mpr (and_congr Iff.rfl (and_congr ?_ ?_))
  · show (0 : ℤ) ≤ _ ↔ _
    omega
  · show _ < (2048 : ℤ) ↔ _
    omega

/-- The reference's score of row `r` of query block `i` and column `c` of its window, in head `e` of group `j`. -/
def score (b i : Fin 16) (j e : Fin 4) (r : Fin 128) (c : Fin 384) : EReal :=
  if Seen i r c then (∑ d, X (ix3 b (keyAt i c) (kCol j d)) * X (ix3 b (rowAt i r) (qCol (headAt j e) d))) * ((1 / 8 : ℝ) : EReal)
    - slope (headAt j e) * ((|(r.val : ℤ) + 128 - c.val| : ℤ) : ℝ) else ⊥

theorem score_at (b i : Fin 16) (j e : Fin 4) (r : Fin 128) (c : Fin 384) :
    val_main_v79 (F := Ideal) X (ix6 b i j e r c) = score X b i j e r c := by
  have e1 : val_main_v79 (F := Ideal) X (ix6 b i j e r c) = Scalar.select (val_main_v57 (F := Ideal) (ix3 i r c))
      (val_main_v24 (F := Ideal) X (ix6 b i j e r c) - val_main_v72 (F := Ideal) (ix4 j e r c)
        * FloatOps.sitofp (F := Ideal) .f32 (val_main_v34 (F := Ideal) (ix2 r c))) (Ideal.ofBits .f32 4286578688#32) := by
    unfold val_main_v79 val_main_call2_v1 val_main_call2_v2 val_main_call2_v0 val_main_cst_11 val_main_v78 val_main_v77
      val_main_v76 val_main_v75 val_main_v74 val_main_v73 val_main_v71 val_main_v70
    generalize val_main_v34 (F := Ideal) = D
    generalize val_main_v57 (F := Ideal) = P
    generalize val_main_v24 (F := Ideal) X = Y
    generalize val_main_v72 (F := Ideal) = Z
    pointwise
    rfl
  have ed : FloatOps.sitofp (F := Ideal) .f32 (val_main_v34 (F := Ideal) (ix2 r c)) = ((|(r.val : ℤ) + 128 - c.val| : ℤ) : ℝ) := by
    show ((((val_main_v34 (F := Ideal) (ix2 r c)).toInt : ℤ) : ℝ) : EReal) = _
    rw [dist_at]
  rw [e1, ed, mask_at, negInf_eq, slope_at, product_at]
  unfold score Scalar.select
  by_cases hs : Seen i r c
  · rw [if_pos hs, if_pos (by simp [hs])]
    refine congrArg (fun s => s * _ - _) (Finset.sum_congr rfl fun d _ => ?_)
    rw [query_at, winKey_at, padKey_at X b i c j d hs.2.1 hs.2.2]
  · rw [if_neg hs, if_neg (by simp [hs])]

end Cert.Proof.Ref

end

end
-- ==== Proof.Reference.lean ====
/- The reference's result: every element from the arrays the program is given. -/
module

public import proofs.«01_k».proof.Proof.Scores

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem Idealize.ShloMosaic.StableHlo

variable (X : S16x2048x4608.Idx → EReal) (K : S1x16.Idx → EReal) (g : S1x1024.Idx → EReal)

/-- The largest score of a row. -/
theorem max_at (b i : Fin 16) (j e : Fin 4) (r : Fin 128) :
    val_main_v82 (F := Ideal) X (ix5 b i j e r) = Finset.fold max ⊥ (score X b i j e r) Finset.univ := by
  rw [show score X b i j e r = fun c => val_main_v79 (F := Ideal) X (ix6 b i j e r c) from
    funext fun c => (score_at X b i j e r c).symm]
  unfold val_main_v82
  generalize val_main_v79 (F := Ideal) X = Y
  pointwise [val_main_cst_12]
  rw [negInf_eq]
  refine Finset.fold_filter_eq_fold_of_fiber max _ (fun c : Fin 384 => ix6 b i j e r c) (fun _ _ h => congrFun h 5) (fun y => ?_) ⊥ Y
  constructor
  · intro h
    refine ⟨y 5, ?_⟩
    funext a
    match a with
    | ⟨0, _⟩ => exact (congrFun h 0).symm
    | ⟨1, _⟩ => exact (congrFun h 1).symm
    | ⟨2, _⟩ => exact (congrFun h 2).symm
    | ⟨3, _⟩ => exact (congrFun h 3).symm
    | ⟨4, _⟩ => exact (congrFun h 4).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- A row's sink. -/
theorem sink_at (b i : Fin 16) (j e : Fin 4) (r : Fin 128) :
    val_main_v85 (F := Ideal) K (ix6 b i j e r 0) = K (ix2 0 (headAt j e)) := by
  pointwise [val_main_v85, val_main_v84, val_main_v81, val_main_v80, val_main_v7, headAt]
  refine congrArg (fun h => K (ix2 0 h)) (Fin.ext ?_)
  show j.val * 4 + e.val = 4 * j.val + e.val
  omega

theorem rowMax_read (b i : Fin 16) (j e : Fin 4) (r : Fin 128) :
    val_main_v86 (F := Ideal) X K (ix6 b i j e r 0)
      = max (val_main_v82 (F := Ideal) X (ix5 b i j e r)) (val_main_v85 (F := Ideal) K (ix6 b i j e r 0)) := by
  rw [val_main_v86_apply, val_main_v83_apply]
  generalize val_main_v82 (F := Ideal) X = Y
  generalize val_main_v85 (F := Ideal) K = Z
  rw [show idx_main_v83 (ix6 b i j e r 0) = ix5 b i j e r from funext fun a => by
    match a with | ⟨0, _⟩ => rfl | ⟨1, _⟩ => rfl | ⟨2, _⟩ => rfl | ⟨3, _⟩ => rfl | ⟨4, _⟩ => rfl]
  rfl

/-- A row's largest score or sink. -/
theorem rowMax_at (b i : Fin 16) (j e : Fin 4) (r : Fin 128) :
    val_main_v86 (F := Ideal) X K (ix6 b i j e r 0) = rowMax (score X b i j e r) (K (ix2 0 (headAt j e))) := by
  rw [rowMax_read, max_at, sink_at]
  rfl

/-- The exponential of a score. -/
theorem exp_at (b i : Fin 16) (j e : Fin 4) (r : Fin 128) (c : Fin 384) :
    val_main_v89 (F := Ideal) X K (ix6 b i j e r c)
      = Ideal.exp (score X b i j e r c - rowMax (score X b i j e r) (K (ix2 0 (headAt j e)))) := by
  rw [← rowMax_at, ← score_at]
  unfold val_main_v89 val_main_v88 val_main_v87
  generalize val_main_v79 (F := Ideal) X = Y
  generalize val_main_v86 (F := Ideal) X K = Z
  pointwise

/-- The exponential of the sink. -/
theorem expSink_at (b i : Fin 16) (j e : Fin 4) (r : Fin 128) :
    val_main_v95 (F := Ideal) X K (ix6 b i j e r 0)
      = Ideal.exp (K (ix2 0 (headAt j e)) - rowMax (score X b i j e r) (K (ix2 0 (headAt j e)))) := by
  rw [← rowMax_at, ← sink_at K b i j e r]
  unfold val_main_v95 val_main_v94
  rw [show val_main_v93 (F := Ideal) K = val_main_v85 (F := Ideal) K from rfl]
  generalize val_main_v85 (F := Ideal) K = Y
  generalize val_main_v86 (F := Ideal) X K = Z
  pointwise

/-- A row's denominator. -/
theorem rowSum_at (b i : Fin 16) (j e : Fin 4) (r : Fin 128) :
    val_main_v96 (F := Ideal) X K (ix6 b i j e r 0) = rowSum (score X b i j e r) (K (ix2 0 (headAt j e))) := by
  have e1 : val_main_v96 (F := Ideal) X K (ix6 b i j e r 0)
      = ∑ c, val_main_v89 (F := Ideal) X K (ix6 b i j e r c) + val_main_v95 (F := Ideal) X K (ix6 b i j e r 0) := by
    unfold val_main_v96 val_main_v91
    have e2 (y : S16x16x4x4x128.Idx) : val_main_v90 (F := Ideal) X K y = ∑ c, val_main_v89 (F := Ideal) X K (idx_main_v90 y c) := by
      rw [val_main_v90_apply, val_main_cst_13_apply]
      exact (congrArg (· + _) Ideal.ofBits_zero_f32).trans (zero_add _)
    rw [show val_main_v90 (F := Ideal) X K = _ from funext e2]
    generalize val_main_v89 (F := Ideal) X K = Y
    generalize val_main_v95 (F := Ideal) X K = Z
    pointwise
    refine congrArg (· + _) (Finset.sum_congr rfl fun c _ => congrArg Y (funext fun a => ?_))
    match a with | ⟨0, _⟩ => rfl | ⟨1, _⟩ => rfl | ⟨2, _⟩ => rfl | ⟨3, _⟩ => rfl | ⟨4, _⟩ => rfl | ⟨5, _⟩ => rfl
  rw [e1, expSink_at]
  unfold rowSum
  exact congrArg (· + _) (Finset.sum_congr rfl fun c _ => exp_at X K b i j e r c)

/-- A row's probabilities. -/
theorem weight_at (b i : Fin 16) (j e : Fin 4) (r : Fin 128) (c : Fin 384) :
    val_main_v98 (F := Ideal) X K (ix6 b i j e r c) = weight (score X b i j e r) (K (ix2 0 (headAt j e))) c := by
  unfold weight
  rw [← rowSum_at, ← exp_at]
  unfold val_main_v98 val_main_v97
  generalize val_main_v89 (F := Ideal) X K = Y
  generalize val_main_v96 (F := Ideal) X K = Z
  pointwise

/-- The attention before its heads are joined. -/
theorem attend_at (b i : Fin 16) (r : Fin 128) (j e : Fin 4) (d : Fin 64) :
    val_main_v100 (F := Ideal) X K (ix6 b i r j e d) = attend (score X b i j e r)
      (fun c => val_main_v11 (F := Ideal) X (ix4 b (padAt i c) j d)) (K (ix2 0 (headAt j e))) := by
  have e1 : val_main_v100 (F := Ideal) X K (ix6 b i r j e d)
      = ∑ c, val_main_v20 (F := Ideal) X (ix5 b i c j d) * val_main_v98 (F := Ideal) X K (ix6 b i j e r c) := by
    unfold val_main_v100 val_main_v99
    generalize val_main_v20 (F := Ideal) X = Y
    generalize val_main_v98 (F := Ideal) X K = Z
    pointwise
  rw [e1]
  unfold attend
  refine Finset.sum_congr rfl fun c _ => ?_
  rw [weight_at, winValue_at, mul_comm]

/-- The attention of position `t`, in column `x`. -/
def refAttend (b : Fin 16) (t : Fin 2048) (x : Fin 1024) : EReal :=
  val_main_v100 (F := Ideal) X K (ix6 b (⟨t.val / 128, by omega⟩ : Fin 16) (⟨t.val % 128, by omega⟩ : Fin 128)
    (⟨x.val / 256, by omega⟩ : Fin 4) (⟨x.val / 64 % 4, by omega⟩ : Fin 4) (⟨x.val % 64, by omega⟩ : Fin 64))

theorem joined_at (b : Fin 16) (t : Fin 2048) (x : Fin 1024) :
    val_main_v101 (F := Ideal) X K (ix3 b t x) = refAttend X K b t x := by
  unfold val_main_v101 refAttend
  generalize val_main_v100 (F := Ideal) X K = Y
  pointwise

/-- The norm of every row, as the reference computes it from the joined attention. -/
def norms (Y : FVec Ideal S16x2048x1024 .f32) (g : S1x1024.Idx → EReal) : FVec Ideal S16x2048x1024 .bf16 :=
  truncf .bf16 (mulf (mulf Y (broadcastInDim S16x2048x1024 ![0, 1, 2] bcast_S16x2048x1_S16x2048x1024_0_1_2
    (Host.rsqrt (addf (Host.divf (broadcastInDim S16x2048x1 ![0, 1] bcast_S16x2048_S16x2048x1_0_1
      (Host.reduceAdd (mulf Y Y) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 (shapeCast S1024 (g : FVec Ideal S1x1024 .f32) shapeCasts_S1x1024_S1024))))
    bitsLt_bf16_f32

theorem norms_at (Y : FVec Ideal S16x2048x1024 .f32) (b : Fin 16) (t : Fin 2048) (x : Fin 1024) :
    norms Y g (ix3 b t x) = normed (fun y => Y (ix3 b t y)) (fun y => g (ix2 0 y)) x := by
  unfold norms normed
  pointwise

theorem norms_eq : val_main_v116 (F := Ideal) X K g = norms (val_main_v101 (F := Ideal) X K) g := rfl

/-- The reference's result. -/
theorem result_at (b : Fin 16) (t : Fin 2048) (x : Fin 1024) :
    val_main_v116 (F := Ideal) X K g (ix3 b t x) = normed (refAttend X K b t) (fun y => g (ix2 0 y)) x := by
  rw [norms_eq, norms_at]
  exact congrArg (fun a => normed a _ x) (funext fun y => joined_at X K b t y)

end Cert.Proof.Ref

end

end
-- ==== Proof.Equation.lean ====
/- The kernel's attention is the reference's: their windows of keys differ at the sequence's two ends only, in columns that
   score minus infinity, and their scores agree since every query and key is a real number. -/
module

public import proofs.«01_k».proof.Proof.Rows
public import proofs.«01_k».proof.Proof.Array
public import proofs.«01_k».proof.Proof.Reference

@[expose] public section

noncomputable section

namespace Cert.Proof

open Idealize.ShloMosaic
open Cert.KernelIdeal (S16x2048x4608 S1x16 S1x1024)
open Cert.Proof.Ref (headAt rowAt keyAt padAt Seen score refAttend)

theorem coe_sum {ι : Type} (a : Finset ι) (f : ι → ℝ) : ((∑ x ∈ a, f x : ℝ) : EReal) = ∑ x ∈ a, (f x : EReal) := by
  classical
  induction a using Finset.induction_on with
  | empty => simp
  | insert x a hx ih => rw [Finset.sum_insert hx, Finset.sum_insert hx, EReal.coe_add, ih]

/-- Scaling each key or scaling the sum of products, and adding a bias or subtracting it, give one score: over the reals. -/
theorem scale_sum (q k : Fin 64 → EReal) (w σ : EReal) (hq : ∀ d, ∃ r : ℝ, q d = r) (hk : ∀ d, ∃ r : ℝ, k d = r)
    (hσ : ∃ r : ℝ, σ = r) (hw : ∃ r : ℝ, w = r) :
    (∃ r : ℝ, ∑ d, q d * (k d * ((1 / 8 : ℝ) : EReal)) + -σ * w = r) ∧
    (∑ d, k d * q d) * ((1 / 8 : ℝ) : EReal) - σ * w = ∑ d, q d * (k d * ((1 / 8 : ℝ) : EReal)) + -σ * w := by
  choose q' hq using hq
  choose k' hk using hk
  obtain ⟨σ', rfl⟩ := hσ
  obtain ⟨w', rfl⟩ := hw
  simp only [hq, hk, ← EReal.coe_mul, ← EReal.coe_neg, ← coe_sum, ← EReal.coe_add, ← EReal.coe_sub]
  refine ⟨⟨_, rfl⟩, congrArg _ ?_⟩
  rw [Finset.sum_mul, sub_eq_add_neg, neg_mul]
  exact congrArg (· + _) (Finset.sum_congr rfl fun d _ => by ring)

variable (X : S16x2048x4608.Idx → EReal) (K : S1x16.Idx → EReal) (g : S1x1024.Idx → EReal)
  (hX : ∀ b t (x : Fin 4608), x.val < 1280 → ∃ r : ℝ, X (ix3 b t x) = r) (hK : ∀ h, ∃ r : ℝ, K (ix2 0 h) = r)

theorem rowAt_div (i : Fin 16) (r : Fin 128) : (rowAt i r).val / 128 = i.val := by
  show (128 * i.val + r.val) / 128 = _
  omega

theorem keyPos_row (i : Fin 16) (r : Fin 128) (n : Fin 384) : (keyPos (rowAt i r) n).val = winStart i.val + n.val :=
  congrArg (fun I => winStart I + n.val) (rowAt_div i r)

theorem kvOf_headAt (j e : Fin 4) : kvOf (headAt j e) = j := Fin.ext (by
  show (4 * j.val + e.val) / 4 = j.val
  omega)

include hX in
/-- The kernel's score where it is finite is a real number, and the reference's at the same position. -/
theorem score_seen (b i : Fin 16) (j e : Fin 4) (r : Fin 128) (n c : Fin 384) (hc : Seen i r c)
    (hn : winStart i.val + n.val + 128 = 128 * i.val + c.val) :
    (∃ x : ℝ, kernelScore X b (rowAt i r) (headAt j e) n = x)
      ∧ score X b i j e r c = kernelScore X b (rowAt i r) (headAt j e) n := by
  have hz : ((rowAt i r).val : ℤ) - (keyPos (rowAt i r) n).val = (r.val : ℤ) + 128 - c.val := by
    rw [keyPos_row]
    show ((128 * i.val + r.val : ℕ) : ℤ) - _ = _
    omega
  have hp : keyAt i c = keyPos (rowAt i r) n := by
    refine Fin.ext ?_
    rw [keyPos_row]
    show min (128 * i.val + c.val - 128) 2047 = _
    have := hc.2.1
    have := hc.2.2
    omega
  have h1 := scale_sum (fun d => X (ix3 b (rowAt i r) (qCol (headCol (headAt j e) d))))
    (fun d => X (ix3 b (keyPos (rowAt i r) n) (kCol (kvCol j d)))) (((|(r.val : ℤ) + 128 - c.val| : ℤ) : ℝ) : EReal)
    (slope (headAt j e)) (fun d => hX _ _ _ (by
      show 64 * (headAt j e).val + d.val < 1280
      omega)) (fun d => hX _ _ _ (by
      show 1024 + (64 * j.val + d.val) < 1280
      omega)) (slope_real _) ⟨_, rfl⟩
  have h2 : kernelScore X b (rowAt i r) (headAt j e) n
      = ∑ d, X (ix3 b (rowAt i r) (qCol (headCol (headAt j e) d)))
          * (X (ix3 b (keyPos (rowAt i r) n) (kCol (kvCol j d))) * ((1 / 8 : ℝ) : EReal))
        + -slope (headAt j e) * (((|(r.val : ℤ) + 128 - c.val| : ℤ) : ℝ) : EReal) := by
    unfold kernelScore biasAt
    rw [hz, if_pos hc.1, kvOf_headAt]
  rw [h2]
  refine ⟨h1.1, ?_⟩
  rw [← h1.2]
  unfold score
  rw [if_pos hc, hp]
  rfl

/-- The kernel's score is minus infinity outside the window. -/
theorem near_of_ne_bot (b i : Fin 16) (h : Fin 16) (r : Fin 128) (n : Fin 384) (hn : kernelScore X b (rowAt i r) h n ≠ ⊥) :
    |((128 * i.val + r.val : ℕ) : ℤ) - ((winStart i.val + n.val : ℕ) : ℤ)| ≤ 128 := by
  by_contra hc
  refine hn ?_
  have : ¬ |((rowAt i r).val : ℤ) - (keyPos (rowAt i r) n).val| ≤ 128 := by rw [keyPos_row]; exact hc
  unfold kernelScore biasAt
  rw [if_neg this, EReal.add_bot]

/-- The reference's column at the position of the kernel's column `n`. -/
theorem col_of_near (i : Fin 16) (r : Fin 128) (n : Fin 384)
    (h : |((128 * i.val + r.val : ℕ) : ℤ) - ((winStart i.val + n.val : ℕ) : ℤ)| ≤ 128) :
    ∃ hc : winStart i.val + n.val + 128 - 128 * i.val < 384, Seen i r ⟨winStart i.val + n.val + 128 - 128 * i.val, hc⟩
      ∧ winStart i.val + n.val + 128 = 128 * i.val + (winStart i.val + n.val + 128 - 128 * i.val) := by
  have := winStart_le i.val
  rw [abs_le] at h
  refine ⟨by omega, ⟨?_, ?_, ?_⟩, by omega⟩
  · rw [abs_le]
    dsimp only
    omega
  · dsimp only
    omega
  · dsimp only
    omega

/-- The kernel's column at the position of a column the reference sees. -/
theorem col_of_seen (i : Fin 16) (r : Fin 128) (c : Fin 384) (h : Seen i r c) :
    ∃ n : Fin 384, winStart i.val + n.val + 128 = 128 * i.val + c.val := by
  obtain ⟨h1, h2, h3⟩ := h
  rw [abs_le] at h1
  have h4 : winStart i.val ≤ 128 * i.val + c.val - 128 ∧ 128 * i.val + c.val - 128 < winStart i.val + 384 := by
    unfold winStart
    omega
  exact ⟨⟨128 * i.val + c.val - 128 - winStart i.val, by omega⟩, by dsimp only; omega⟩

include hX hK in
/-- One element of the attention, in the kernel and in the reference. -/
theorem attend_eq (b i : Fin 16) (r : Fin 128) (j e : Fin 4) (d : Fin 64) :
    kernelAttend X K b (rowAt i r) (headAt j e) d
      = Cert.ReferenceIdeal.Read.val_main_v100 (F := Ideal) X K (ix6 b i r j e d) := by
  rw [Ref.attend_at]
  unfold kernelAttend
  obtain ⟨σ, hσ⟩ := hK (headAt j e)
  rw [hσ, kvOf_headAt]
  have hcol (n : Fin 384) (hn : kernelScore X b (rowAt i r) (headAt j e) n ≠ ⊥) :=
    col_of_near i r n (near_of_ne_bot X b i (headAt j e) r n hn)
  refine attend_shift _ _ _ _ σ (fun n => ?_)
    (fun n hn => ⟨winStart i.val + n.val + 128 - 128 * i.val, (hcol n hn).1⟩) (fun n hn p hp h => ?_) (fun c hc => ?_)
    (fun n hn => ?_) (fun n hn => ?_)
  · by_cases hn : kernelScore X b (rowAt i r) (headAt j e) n = ⊥
    · rw [hn]; exact bot_ne_top
    · obtain ⟨hc, hs, he⟩ := hcol n hn
      obtain ⟨⟨x, hx⟩, -⟩ := score_seen X hX b i j e r n _ hs he
      rw [hx]; exact EReal.coe_ne_top x
  · obtain ⟨_, -, e1⟩ := hcol n hn
    obtain ⟨_, -, e2⟩ := hcol p hp
    have := congrArg Fin.val h
    dsimp only at this
    exact Fin.ext (by omega)
  · have hs : Seen i r c := by
      by_contra h
      exact hc (by unfold score; rw [if_neg h])
    obtain ⟨n, hn⟩ := col_of_seen i r c hs
    obtain ⟨⟨x, hx⟩, -⟩ := score_seen X hX b i j e r n c hs hn
    exact ⟨n, by rw [hx]; exact EReal.coe_ne_bot x, Fin.ext (by dsimp only; omega)⟩
  · obtain ⟨hc, hs, he⟩ := hcol n hn
    exact (score_seen X hX b i j e r n _ hs he).2
  · obtain ⟨hc, hs, he⟩ := hcol n hn
    rw [Ref.padValue_at X b i _ j d hs.2.1 hs.2.2]
    refine congrArg (fun p => X (ix3 b p (vCol (kvCol j d)))) (Fin.ext ?_)
    rw [keyPos_row]
    show min (128 * i.val + (winStart i.val + n.val + 128 - 128 * i.val) - 128) 2047 = _
    have := winStart_le i.val
    omega

include hX hK in
/-- The kernel's result is the reference's. -/
theorem out_eq (b : Fin 16) (t : Fin 2048) (x : Fin 1024) :
    kernelOut X K g b t x = Cert.ReferenceIdeal.Read.val_main_v116 (F := Ideal) X K g (ix3 b t x) := by
  rw [Ref.result_at]
  unfold kernelOut
  refine congrArg (fun a => normed a _ x) (funext fun y => ?_)
  have ht : t = rowAt ⟨t.val / 128, by omega⟩ ⟨t.val % 128, by omega⟩ := Fin.ext (by
    show t.val = 128 * (t.val / 128) + t.val % 128
    omega)
  have hy : headOf y = headAt ⟨y.val / 256, by omega⟩ ⟨y.val / 64 % 4, by omega⟩ := Fin.ext (by
    show y.val / 64 = 4 * (y.val / 256) + y.val / 64 % 4
    omega)
  rw [hy]
  refine Eq.trans ?_ (attend_eq X K hX hK b ⟨t.val / 128, by omega⟩ ⟨t.val % 128, by omega⟩ ⟨y.val / 256, by omega⟩
    ⟨y.val / 64 % 4, by omega⟩ (colOf y))
  rw [← ht]

end Cert.Proof

end

end
-- ==== Proof.ProjectionEquation.lean ====
/- The projection's kernel and its reference agree: a normalised row is real whatever the row, so are its products with real
   weights, and over the reals the two ways to a head's mean square are one. -/
module

public import proofs.«01_k».proof.Proof.ProjectionArray
public import proofs.«01_k».proof.Proof.ProjectionReference
public import proofs.«01_k».proof.Proof.ProjectionFinite
public import proofs.«01_k».proof.Proof.Equation

@[expose] public section

set_option maxRecDepth 16384

noncomputable section

namespace Cert.Proof.Projection

open Idealize.ShloMosaic

theorem rows_f32 : Ideal.ofBits .f32 1157627904#32 = ((2048 : ℝ) : EReal) := by
  simp [Ideal.ofBits, Ideal.ieee]; norm_num [zpow_neg]; rw [← EReal.coe_mul]; norm_num
theorem head_f32 : Ideal.ofBits .f32 1115684864#32 = ((64 : ℝ) : EReal) := by
  simp [Ideal.ofBits, Ideal.ieee]; norm_num [zpow_neg]; rw [← EReal.coe_mul]; norm_num
theorem share_f32 : Ideal.ofBits .f32 1015021568#32 = ((1 / 64 : ℝ) : EReal) := by
  simp [Ideal.ofBits, Ideal.ieee]; norm_num [zpow_neg]; rw [← EReal.coe_mul]; norm_num
theorem small_f32 : ∃ r : ℝ, 0 < r ∧ Ideal.ofBits .f32 897988541#32 = (r : EReal) := by
  simp [Ideal.ofBits, Ideal.ieee]
  exact ⟨_, by norm_num, (EReal.coe_mul _ _).symm⟩

theorem square_nonneg (x : EReal) : 0 ≤ x * x := by
  induction x with
  | bot => simp
  | top => simp
  | coe r => rw [← EReal.coe_mul]; exact_mod_cast mul_self_nonneg r

/-- An element whose square is below infinity is real. -/
theorem real_of_square (x : EReal) (h : x * x ≠ ⊤) : ∃ r : ℝ, x = r := by
  induction x with
  | bot => simp at h
  | top => simp at h
  | coe r => exact ⟨r, rfl⟩

/-- A normalised row is real, whatever the row: where the row holds an infinity its mean square is infinite and the row is zero. -/
theorem mixed_real (x g : Fin 2048 → EReal) (hg : ∀ d, ∃ r : ℝ, g d = r) (d : Fin 2048) : ∃ r : ℝ, mixed x g d = r := by
  obtain ⟨ε, hε, eε⟩ := small_f32
  obtain ⟨γ, eγ⟩ := hg d
  have hs : 0 ≤ ∑ e, x e * x e := Finset.sum_nonneg fun e _ => square_nonneg _
  have hd : x d * x d ≤ ∑ e, x e * x e := Finset.single_le_sum (f := fun e => x e * x e) (fun e _ => square_nonneg _) (Finset.mem_univ d)
  unfold mixed
  rw [rows_f32, eε, eγ, Ideal.div_coe (by norm_num)]
  generalize ∑ e, x e * x e = s at hs hd
  induction s with
  | bot => simp at hs
  | top =>
    refine ⟨0, ?_⟩
    rw [EReal.top_mul_coe_of_pos (by norm_num), EReal.top_add_coe, Ideal.rsqrt_top]
    simp
  | coe s =>
    obtain ⟨r, er⟩ := real_of_square (x d) (fun h => by rw [h] at hd; simp at hd)
    have hs' : 0 ≤ s := by exact_mod_cast hs
    have hp : 0 < s * (1 / 2048) + ε := by positivity
    rw [er, ← EReal.coe_mul, ← EReal.coe_add, Ideal.rsqrt_coe, if_neg (not_lt.mpr hp.le), if_neg hp.ne', ← EReal.coe_mul,
      ← EReal.coe_mul]
    exact ⟨_, rfl⟩

theorem product_real (x g w : Fin 2048 → EReal) (hg : ∀ d, ∃ r : ℝ, g d = r) (hw : ∀ d, ∃ r : ℝ, w d = r) :
    ∃ r : ℝ, product x g w = r := by
  choose y hy using mixed_real x g hg
  choose v hv using hw
  unfold product
  simp only [hy, hv, ← EReal.coe_mul, ← coe_sum]
  exact ⟨_, rfl⟩

/-- A sum over a tile's columns that the pattern keeps is a sum over a head's columns. -/
theorem pattern_sum {n : ℕ} (f : Fin n → EReal) (v : ℕ) (hv : 64 * (v / 64) + 64 ≤ n) :
    ∑ c : Fin n, f c * patternAt c.val v = ∑ e : Fin 64, f ⟨64 * (v / 64) + e.val, by omega⟩ := by
  unfold patternAt
  simp only [mul_ite, mul_one, mul_zero]
  rw [← Finset.sum_filter]
  symm
  refine Finset.sum_bij (fun e _ => ⟨64 * (v / 64) + e.val, by omega⟩) (fun e _ => ?_) (fun e _ e' _ h => ?_) (fun c hc => ?_)
    (fun e _ => rfl)
  · rw [Finset.mem_filter]
    refine ⟨Finset.mem_univ _, ?_⟩
    show (64 * (v / 64) + e.val) / 64 = v / 64
    omega
  · have := congrArg Fin.val h
    exact Fin.ext (by dsimp only at this; omega)
  · rw [Finset.mem_filter] at hc
    exact ⟨⟨c.val - 64 * (v / 64), by omega⟩, Finset.mem_univ _, Fin.ext (by
      show 64 * (v / 64) + (c.val - 64 * (v / 64)) = c.val
      omega)⟩

/-- The kernel's way to a head's norm is the reference's, where the tile is real. -/
theorem tile_head {n : ℕ} (t : Fin n → EReal) (v : ℕ) (hv : 64 * (v / 64) + 64 ≤ n) (ht : ∀ c, ∃ r : ℝ, t c = r)
    (a g : Fin 64 → EReal) (d : Fin 64) (ha : ∀ e : Fin 64, t ⟨64 * (v / 64) + e.val, by omega⟩ = a e) :
    tileNormed t (fun c => patternAt c.val v) (a d) (g d) = headNormed a g d := by
  have hz (c : Fin n) : t c * t c - t c * t c = 0 := by
    obtain ⟨r, hr⟩ := ht c
    rw [hr, ← EReal.coe_mul, ← EReal.coe_sub, sub_self]
    rfl
  unfold tileNormed headNormed
  rw [pattern_sum (fun c => t c * t c) v hv, head_f32, share_f32, Ideal.div_coe (by norm_num)]
  simp only [hz, zero_mul, Finset.sum_const_zero, add_zero, ha]

variable (X : Cert.Kernel3Ideal.S16x2048x2048.Idx → EReal) (g : Cert.Kernel3Ideal.S1x2048.Idx → EReal)
  (W : Cert.Kernel3Ideal.S1x2048x4608.Idx → EReal) (q k : Cert.Kernel3Ideal.S1x64.Idx → EReal)

/-- The kernel's result is a finished row of projections. -/
theorem kernel_finished (hg : ∀ d, ∃ r : ℝ, g (ix2 0 d) = r)
    (hW : ∀ d (z : Fin 4608), z.val < 1280 → ∃ r : ℝ, W (ix3 0 d z) = r) (r : Fin 32768) (z : Fin 4608) :
    kernelOut X g W q k r z = finished (rowProduct X g W r) (fun e => q (ix2 0 e)) (fun e => k (ix2 0 e)) z := by
  have hr (y : Fin 4608) (hy : y.val < 1280) : ∃ s : ℝ, rowProduct X g W r y = s :=
    product_real _ _ _ hg fun d => hW d y hy
  have hc : headCol z (inHead z) = z := Fin.ext (by show 64 * (z.val / 64) + z.val % 64 = z.val; omega)
  unfold kernelOut finished
  by_cases h1 : z.val < 1024
  · rw [if_pos h1, if_pos h1]
    refine Eq.trans ?_ (tile_head (n := 512) (fun e => rowProduct X g W r (tileCol z e)) (z.val % 512) (by omega) (fun e => ?_)
      (fun e => rowProduct X g W r (headCol z e)) (fun e => q (ix2 0 e)) (inHead z) (fun e => ?_))
    · rw [hc]
    · exact hr _ (by show 512 * (z.val / 512) + e.val < 1280; omega)
    · refine congrArg _ (Fin.ext ?_)
      show 512 * (z.val / 512) + (64 * (z.val % 512 / 64) + e.val) = 64 * (z.val / 64) + e.val
      omega
  · rw [if_neg h1, if_neg h1]
    by_cases h2 : z.val < 1280
    · rw [if_pos h2, if_pos h2]
      refine Eq.trans ?_ (tile_head (n := 256) (fun e => rowProduct X g W r (keyCol e)) (z.val - 1024) (by omega) (fun e => ?_)
        (fun e => rowProduct X g W r (headCol z e)) (fun e => k (ix2 0 e)) (inHead z) (fun e => ?_))
      · rw [hc]
      · exact hr _ (by show 1024 + e.val < 1280; omega)
      · refine congrArg _ (Fin.ext ?_)
        show 1024 + (64 * ((z.val - 1024) / 64) + e.val) = 64 * (z.val / 64) + e.val
        omega
    · rw [if_neg h2, if_neg h2]

/-- The reference's result is the kernel's. -/
theorem out_eq (hg : ∀ d, ∃ r : ℝ, g (ix2 0 d) = r) (hW : ∀ d (z : Fin 4608), z.val < 1280 → ∃ r : ℝ, W (ix3 0 d z) = r)
    (r : Fin 32768) (z : Fin 4608) :
    Cert.Reference3Ideal.Read.val_main_v53 (F := Ideal) X g W q k (ix2 r z) = kernelOut X g W q k r z :=
  (Ref.reference_at X g W q k r z).trans (kernel_finished X g W q k hg hW r z).symm

end Cert.Proof.Projection

end

end
-- ==== Proof.lean ====
/- The claims of the three calls, the attention, the experts and the input projection: their frames, that nothing was rewritten, and their values
   against the references. The attention's value comes from Equation.lean: the kernel's array (Array.lean) is the reference's
   (Reference.lean) element by element. The experts' comes from ExpertsArray.lean and ExpertsEquation.lean: both programs end
   with the same array. The projection's comes from ProjectionArray.lean, ProjectionReference.lean and ProjectionEquation.lean. -/
module

public import proofs.«01_k».proof.Proof.ExpertsEquation
public import proofs.«01_k».proof.Proof.ProjectionEquation
public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Finite

@[expose] public section

noncomputable section

namespace Cert.Proof

open Idealize.ShloMosaic Idealize.SL.Sem

/-- The precondition's side conditions hold. -/
instance instFiniteFacts : Cert.Pre_finite_scores.Facts := Finite.facts

/-- The kernel as printed runs, keeps its arguments and ends quiescent. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

/-- The reference runs, keeps its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_finite_scores := fun m ρ _ => frame_reference m ρ trivial

/-- The kernel's result is the reference's, where no query, key or sink is infinite. -/
theorem value : Cert.algebraic_KernelIdeal_ReferenceIdeal_pre_finite_scores := by
  intro m ρ m' ρ' hpre hargs
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun r h c => ⟨?_, (h c).2⟩) (Cert.ReferenceIdeal.Value.run m' ρ')
  obtain ⟨hX, hK⟩ := Finite.reals_of_pre _ _ _ (hpre c)
  obtain ⟨e0, e1, e2⟩ := hargs c
  refine (h c).1.trans ((Cert.ReferenceIdeal.Read.val_main_v116_eq _).trans ?_)
  refine Eq.trans ?_ (kernel_array m c).symm
  funext y
  refine Eq.trans ?_ (out_eq _ _ _ hX hK (y 0) (y 1) (y 2)).symm
  refine Eq.trans (congrFun (congr (congr (congrArg (Cert.ReferenceIdeal.Read.val_main_v116 (F := Ideal)) e0) e1) e2) y)
    (congrArg _ ?_)
  funext a
  match a with
  | ⟨0, _⟩ => rfl
  | ⟨1, _⟩ => rfl
  | ⟨2, _⟩ => rfl

/-! ## The experts -/

instance instExpertsFacts : Cert.Pre_blocks_in_range.Facts := Experts.preFacts

/-- The experts' kernel as printed runs, keeps its arguments and ends quiescent, where the row blocks are in range. -/
theorem frame_experts : Cert.quiescent_Kernel2 := fun m ρ h => Cert.Kernel2.Gen.frame m ρ (Experts.ok_printed_of_pre m h)

/-- So does the experts' kernel over the extended reals. -/
theorem frame_experts_ideal : Cert.quiescent_Kernel2Ideal := fun m ρ h => Cert.Kernel2Ideal.Gen.frame m ρ (Experts.ok_of_pre m h)

/-- The experts' reference runs, keeps its arguments, and has no semaphore. -/
theorem frame_experts_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_experts_reference_pre : Cert.quiescent_Reference2Ideal_pre_blocks_in_range :=
  fun m ρ _ => frame_experts_reference m ρ trivial

/-- The experts' kernel ends with the rows' results, its arguments unchanged. -/
theorem experts_run (m : (ℓ : Loc Cert.Kernel2Ideal.nD Cert.Kernel2Ideal.τ Cert.Kernel2Ideal.sig) → Buf (Elt Ideal) ℓ)
    (ρ : Dev Cert.Kernel2Ideal.nD → PrngReg) (hpre : Cert.Pre_Kernel2Ideal m) (h : Experts.Tables m) :
    θ_run (Cert.Kernel2Ideal.defs (F := Ideal)) (onTc (τ := Cert.Kernel2Ideal.τ) (Cert.Kernel2Ideal.main (F := Ideal)))
      ⟨m, fun _ => 0, ρ⟩ (fun r => ∀ c : Dev Cert.Kernel2Ideal.nD,
        r.2.mem ((c.tc : Thread Cert.Kernel2Ideal.nD Cert.Kernel2Ideal.τ).loc Cert.Kernel2Ideal.main_v2) = Experts.result m c) := by
  have hO := Experts.ok_of_pre m hpre
  exact (θ_run Cert.Kernel2Ideal.defs _ _).mono (fun r hr c => ((hr c).1 5).trans (Experts.experts_array m c hO h))
    (Cert.Kernel2Ideal.Gen.run_main m ρ hO)

/-- The experts' results are the reference's, where the row blocks are in range. -/
theorem experts_value : Cert.algebraic_Kernel2Ideal_Reference2Ideal := by
  intro m ρ m' ρ' hpre hargs
  have hT : Experts.Tables m := Experts.range_of_pre _ _ _ _ _ _ _ (hpre 0)
  refine ⟨fun c => Experts.result m c, ?_, ?_⟩
  · exact (θ_run Cert.Kernel2Ideal.defs _ _).mono (fun r h c => ⟨h.1 c, h.2 c⟩)
      (θ_run_and (experts_run m ρ hpre hT) (Cert.Kernel2Ideal.Gen.unchanged m ρ (Experts.ok_of_pre m hpre)))
  · refine (θ_run Cert.Reference2Ideal.defs _ _).mono (fun r h c => ⟨?_, (h c).2⟩) (Cert.Reference2Ideal.Value.run m' ρ')
    obtain ⟨e0, e1, e2, e3, e4, e5, e6⟩ := hargs c
    obtain rfl : c = 0 := Subsingleton.elim _ _
    refine (h 0).1.trans ((Cert.Reference2Ideal.Read.val_main_v78_eq _ _).trans ?_)
    funext y
    refine Eq.trans (congrFun (congr (congr (congr (congr (congr (congr (congrArg
      (Cert.Reference2Ideal.Read.val_main_v78 (F := Ideal)) e0) e1) e2) e3) e4) e5) e6) y) ?_
    exact Experts.Ref.reference_at _ hT.1 _ _ _ _ _ _ hT.2.2 y

/-! ## The projection -/

instance instProjectionFacts : Cert.Pre_finite_projection.Facts := Projection.preFacts

/-- The projection's kernel as printed runs, keeps its arguments and ends quiescent. -/
theorem frame_projection : Cert.quiescent_Kernel3 := fun m ρ _ => Cert.Kernel3.Gen.frame m ρ

/-- So does the projection's kernel over the extended reals. -/
theorem frame_projection_ideal : Cert.quiescent_Kernel3Ideal := fun m ρ _ => Cert.Kernel3Ideal.Gen.frame m ρ

theorem frame_projection_ideal_pre : Cert.quiescent_Kernel3Ideal_pre_finite_projection :=
  fun m ρ _ => Cert.Kernel3Ideal.Gen.frame m ρ

/-- The projection's reference runs, keeps its arguments, and has no semaphore. -/
theorem frame_projection_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_projection_reference_pre : Cert.quiescent_Reference3Ideal_pre_finite_projection :=
  fun m ρ _ => frame_projection_reference m ρ trivial

/-- The projections are the reference's, where no scale and no weight of the queries and keys is infinite. -/
theorem projection_value : Cert.algebraic_Kernel3Ideal_Reference3Ideal_pre_finite_projection := by
  intro m ρ m' ρ' hpre hargs
  refine ⟨fun c => (Cert.Kernel3Ideal.Gen.dats m 0 c).arrAt 6 Cert.Kernel3Ideal.cfg0.N,
    Cert.Kernel3Ideal.Value.run_blocks m ρ, ?_⟩
  refine (θ_run Cert.Reference3Ideal.defs _ _).mono (fun r h c => ⟨?_, (h c).2⟩) (Cert.Reference3Ideal.Value.run m' ρ')
  obtain ⟨hg, hW⟩ := Projection.reals_of_pre _ _ _ _ _ (hpre c)
  obtain ⟨e0, e1, e2, e3, e4⟩ := hargs c
  refine (h c).1.trans ((Cert.Reference3Ideal.Read.val_main_v53_eq _ _).trans ?_)
  refine Eq.trans ?_ (Projection.kernel_array m c).symm
  funext y
  refine Eq.trans ?_ (Projection.out_eq _ _ _ _ _ hg hW (y 0) (y 1))
  refine Eq.trans (congrFun (congr (congr (congr (congr (congrArg
    (Cert.Reference3Ideal.Read.val_main_v53 (F := Ideal)) e0) e1) e2) e3) e4) y) (congrArg _ ?_)
  funext a
  match a with
  | ⟨0, _⟩ => rfl
  | ⟨1, _⟩ => rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Finite.facts, Experts.preFacts, Projection.preFacts,
  frame_kernel, frame_ideal, frame_ideal_pre, frame_reference, frame_reference_pre,
  frame_experts, frame_experts_ideal, frame_experts_reference, frame_experts_reference_pre,
  frame_projection, frame_projection_ideal, frame_projection_ideal_pre, frame_projection_reference, frame_projection_reference_pre,
  trivial, value, trivial, experts_value, trivial, projection_value⟩

end Cert.Proof

end
